-- ==== Defs.lean ====
def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2)
      ∧ r.2.mem ((c.tc : Thread Cert.Gu.nD Cert.Gu.τ).loc Cert.Gu.main_arg3) = m ((c.tc : Thread Cert.Gu.nD Cert.Gu.τ).loc Cert.Gu.main_arg3))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
      ∧ r.2.mem ((c.tc : Thread Cert.GuIdeal.nD Cert.GuIdeal.τ).loc Cert.GuIdeal.main_arg3) = m ((c.tc : Thread Cert.GuIdeal.nD Cert.GuIdeal.τ).loc Cert.GuIdeal.main_arg3))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2)
      ∧ r.2.mem ((c.tc : Thread Cert.GuRefIdeal.nD Cert.GuRefIdeal.τ).loc Cert.GuRefIdeal.main_arg3) = m ((c.tc : Thread Cert.GuRefIdeal.nD Cert.GuRefIdeal.τ).loc Cert.GuRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def preserves_Ln_LnIdeal : Prop :=
  True

def preserves_Qkv_QkvIdeal : Prop :=
  True

def preserves_Gu_GuIdeal : Prop :=
  True

def preserves_Attn_AttnIdeal : Prop :=
  True

def preserves_Out_OutIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)) →
    ∃ (v0 : (c : Dev Cert.LnIdeal.nD) → Buf (Elt Ideal) ((c.tc : Thread Cert.LnIdeal.nD Cert.LnIdeal.τ).loc Cert.LnIdeal.main_v2_0)) (v1 : (c : Dev Cert.LnIdeal.nD) → Buf (Elt Ideal) ((c.tc : Thread Cert.LnIdeal.nD Cert.LnIdeal.τ).loc Cert.LnIdeal.main_v2_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2_0) = v0 c
          ∧ r.2.mem ((c.tc : Thread Cert.LnIdeal.nD Cert.LnIdeal.τ).loc Cert.LnIdeal.main_v2_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v2_0) = v0 c
          ∧ r.2.mem ((c.tc : Thread Cert.LnRefIdeal.nD Cert.LnRefIdeal.τ).loc Cert.LnRefIdeal.main_v2_1) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1))

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)
      ∧ m' ((c.tc : Thread Cert.GuRefIdeal.nD Cert.GuRefIdeal.τ).loc Cert.GuRefIdeal.main_arg3) = m ((c.tc : Thread Cert.GuIdeal.nD Cert.GuIdeal.τ).loc Cert.GuIdeal.main_arg3)) →
    ∃ (v0 : (c : Dev Cert.GuIdeal.nD) → Buf (Elt Ideal) ((c.tc : Thread Cert.GuIdeal.nD Cert.GuIdeal.τ).loc Cert.GuIdeal.main_v0)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0) = v0 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
          ∧ r.2.mem ((c.tc : Thread Cert.GuIdeal.nD Cert.GuIdeal.τ).loc Cert.GuIdeal.main_arg3) = m ((c.tc : Thread Cert.GuIdeal.nD Cert.GuIdeal.τ).loc Cert.GuIdeal.main_arg3))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v0) = v0 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2)
          ∧ r.2.mem ((c.tc : Thread Cert.GuRefIdeal.nD Cert.GuRefIdeal.τ).loc Cert.GuRefIdeal.main_arg3) = m' ((c.tc : Thread Cert.GuRefIdeal.nD Cert.GuRefIdeal.τ).loc Cert.GuRefIdeal.main_arg3))

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v1_0)) (v1 : (c : Dev Cert.AttnIdeal.nD) → Buf (Elt Ideal) ((c.tc : Thread Cert.AttnIdeal.nD Cert.AttnIdeal.τ).loc Cert.AttnIdeal.main_v1_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1_0) = v0 c
          ∧ r.2.mem ((c.tc : Thread Cert.AttnIdeal.nD Cert.AttnIdeal.τ).loc Cert.AttnIdeal.main_v1_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v41_0) = v0 c
          ∧ r.2.mem ((c.tc : Thread Cert.AttnRefIdeal.nD Cert.AttnRefIdeal.τ).loc Cert.AttnRefIdeal.main_v41_1) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)) (v2 : (c : Dev Cert.OutIdeal.nD) → Buf (Elt Ideal) ((c.tc : Thread Cert.OutIdeal.nD Cert.OutIdeal.τ).loc Cert.OutIdeal.main_v1_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_v1_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1_0) = v0 c
          ∧ r.2.mem ((c.tc : Thread Cert.OutRefIdeal.nD Cert.OutRefIdeal.τ).loc Cert.OutRefIdeal.main_v1_1) = v1 c
          ∧ r.2.mem ((c.tc : Thread Cert.OutRefIdeal.nD Cert.OutRefIdeal.τ).loc Cert.OutRefIdeal.main_v1_2) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def Claim : Prop :=
  ∃ (hLn : Cert.Ln.Facts) (hLnIdeal : Cert.LnIdeal.Facts) (hLnRefIdeal : Cert.LnRefIdeal.Facts) (hQkv : Cert.Qkv.Facts) (hQkvIdeal : Cert.QkvIdeal.Facts) (hGu : Cert.Gu.Facts) (hGuIdeal : Cert.GuIdeal.Facts) (hGuRefIdeal : Cert.GuRefIdeal.Facts) (hAttn : Cert.Attn.Facts) (hAttnIdeal : Cert.AttnIdeal.Facts) (hAttnRefIdeal : Cert.AttnRefIdeal.Facts) (hOut : Cert.Out.Facts) (hOutIdeal : Cert.OutIdeal.Facts) (hOutRefIdeal : Cert.OutRefIdeal.Facts),
    quiescent_Ln (hLn := hLn)
    ∧ quiescent_LnIdeal (hLnIdeal := hLnIdeal)
    ∧ quiescent_LnRefIdeal (hLnRefIdeal := hLnRefIdeal)
    ∧ quiescent_Qkv (hQkv := hQkv)
    ∧ quiescent_QkvIdeal (hQkvIdeal := hQkvIdeal)
    ∧ quiescent_Gu (hGu := hGu)
    ∧ quiescent_GuIdeal (hGuIdeal := hGuIdeal)
    ∧ quiescent_GuRefIdeal (hGuRefIdeal := hGuRefIdeal)
    ∧ quiescent_Attn (hAttn := hAttn)
    ∧ quiescent_AttnIdeal (hAttnIdeal := hAttnIdeal)
    ∧ quiescent_AttnRefIdeal (hAttnRefIdeal := hAttnRefIdeal)
    ∧ quiescent_Out (hOut := hOut)
    ∧ quiescent_OutIdeal (hOutIdeal := hOutIdeal)
    ∧ quiescent_OutRefIdeal (hOutRefIdeal := hOutRefIdeal)
    ∧ preserves_Ln_LnIdeal
    ∧ preserves_Qkv_QkvIdeal
    ∧ preserves_Gu_GuIdeal
    ∧ preserves_Attn_AttnIdeal
    ∧ preserves_Out_OutIdeal
    ∧ algebraic_LnIdeal_LnRefIdeal (hLnIdeal := hLnIdeal) (hLnRefIdeal := hLnRefIdeal)
    ∧ algebraic_GuIdeal_GuRefIdeal (hGuIdeal := hGuIdeal) (hGuRefIdeal := hGuRefIdeal)
    ∧ algebraic_AttnIdeal_AttnRefIdeal (hAttnIdeal := hAttnIdeal) (hAttnRefIdeal := hAttnRefIdeal)
    ∧ algebraic_OutIdeal_OutRefIdeal (hOutIdeal := hOutIdeal) (hOutRefIdeal := hOutRefIdeal)
-- ==== Ln.lean ====
abbrev S1x512x5120 : Shape := ⟨3, ![1, 512, 5120]⟩
abbrev S5120 : Shape := ⟨1, ![5120]⟩
abbrev S512x5120 : Shape := ⟨2, ![512, 5120]⟩
abbrev S1x5120 : Shape := ⟨2, ![1, 5120]⟩
abbrev S512x1 : Shape := ⟨2, ![512, 1]⟩
abbrev S128x5120 : Shape := ⟨2, ![128, 5120]⟩
abbrev S128x1 : Shape := ⟨2, ![128, 1]⟩
abbrev S128 : Shape := ⟨1, ![128]⟩
abbrev S128x256 : Shape := ⟨2, ![128, 256]⟩

abbrev nBuf : Space → Nat
  | .hbm => 6
  | .vmem => 7
  | .smem => 0
  | _ => 0

abbrev bufTy : (tb : Table) → Fin (tcTables nBuf tb) → BufTy
  | .hbm, ⟨0, _⟩ => ⟨S1x512x5120, .bf16⟩
  | .hbm, ⟨1, _⟩ => ⟨S5120, .f32⟩
  | .hbm, ⟨2, _⟩ => ⟨S512x5120, .bf16⟩
  | .hbm, ⟨3, _⟩ => ⟨S1x5120, .f32⟩
  | .hbm, ⟨4, _⟩ => ⟨S512x5120, .fp8e4m3⟩
  | .hbm, ⟨5, _⟩ => ⟨S512x1, .f32⟩
  | .local _ .vmem, ⟨0, _⟩ => ⟨S128x5120, .bf16⟩
  | .local _ .vmem, ⟨1, _⟩ => ⟨S128x5120, .bf16⟩
  | .local _ .vmem, ⟨2, _⟩ => ⟨S1x5120, .f32⟩
  | .local _ .vmem, ⟨3, _⟩ => ⟨S128x5120, .fp8e4m3⟩
  | .local _ .vmem, ⟨4, _⟩ => ⟨S128x5120, .fp8e4m3⟩
  | .local _ .vmem, ⟨5, _⟩ => ⟨S128x1, .f32⟩
  | .local _ .vmem, ⟨6, _⟩ => ⟨S128x1, .f32⟩
  | _, _ => ⟨S1x512x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnRefIdeal.lean ====
abbrev S1x512x5120 : Shape := ⟨3, ![1, 512, 5120]⟩
abbrev S5120 : Shape := ⟨1, ![5120]⟩
abbrev S512x5120 : Shape := ⟨2, ![512, 5120]⟩
abbrev S1x5120 : Shape := ⟨2, ![1, 5120]⟩
abbrev S512x1 : Shape := ⟨2, ![512, 1]⟩
abbrev S512 : Shape := ⟨1, ![512]⟩

abbrev nBuf : Space → Nat
  | .hbm => 6
  | .vmem => 4
  | .smem => 0
  | _ => 0

abbrev bufTy : (tb : Table) → Fin (tcTables nBuf tb) → BufTy
  | .hbm, ⟨0, _⟩ => ⟨S1x512x5120, .bf16⟩
  | .hbm, ⟨1, _⟩ => ⟨S5120, .f32⟩
  | .hbm, ⟨2, _⟩ => ⟨S512x5120, .bf16⟩
  | .hbm, ⟨3, _⟩ => ⟨S1x5120, .f32⟩
  | .hbm, ⟨4, _⟩ => ⟨S512x5120, .fp8e4m3⟩
  | .hbm, ⟨5, _⟩ => ⟨S512x1, .f32⟩
  | .local _ .vmem, ⟨0, _⟩ => ⟨S512x5120, .bf16⟩
  | .local _ .vmem, ⟨1, _⟩ => ⟨S1x5120, .f32⟩
  | .local _ .vmem, ⟨2, _⟩ => ⟨S512x5120, .fp8e4m3⟩
  | .local _ .vmem, ⟨3, _⟩ => ⟨S512x1, .f32⟩
  | _, _ => ⟨S1x512x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Qkv.lean ====
abbrev S1 : Shape := ⟨1, ![1]⟩
abbrev S1x512 : Shape := ⟨2, ![1, 512]⟩
abbrev S512x5120 : Shape := ⟨2, ![512, 5120]⟩
abbrev S512x1 : Shape := ⟨2, ![512, 1]⟩
abbrev S5120x3584 : Shape := ⟨2, ![5120, 3584]⟩
abbrev S1x3584 : Shape := ⟨2, ![1, 3584]⟩
abbrev S64 : Shape := ⟨1, ![64]⟩
abbrev S_ : Shape := ⟨0, ![]⟩
abbrev S64x2 : Shape := ⟨2, ![64, 2]⟩
abbrev S128 : Shape := ⟨1, ![128]⟩
abbrev S1x128 : Shape := ⟨2, ![1, 128]⟩
abbrev S512x3584 : Shape := ⟨2, ![512, 3584]⟩
abbrev S5120x512 : Shape := ⟨2, ![5120, 512]⟩
abbrev S512x512 : Shape := ⟨2, ![512, 512]⟩
abbrev S512x128 : Shape := ⟨2, ![512, 128]⟩
abbrev S512 : Shape := ⟨1, ![512]⟩

abbrev nBuf : Space → Nat
  | .hbm => 25
  | .vmem => 13
  | .smem => 1
  | _ => 0

abbrev bufTy : (tb : Table) → Fin (tcTables nBuf tb) → BufTy
  | .hbm, ⟨0, _⟩ => ⟨S1, .i32⟩
  | .hbm, ⟨1, _⟩ => ⟨S1x512, .i32⟩
  | .hbm, ⟨2, _⟩ => ⟨S512x5120, .fp8e4m3⟩
  | .hbm, ⟨3, _⟩ => ⟨S512x1, .f32⟩
  | .hbm, ⟨4, _⟩ => ⟨S5120x3584, .fp8e4m3⟩
  | .hbm, ⟨5, _⟩ => ⟨S1x3584, .f32⟩
  | .hbm, ⟨6, _⟩ => ⟨S512x1, .i32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64x2, .f32⟩
  | .hbm, ⟨22, _⟩ => ⟨S128, .f32⟩
  | .hbm, ⟨23, _⟩ => ⟨S1x128, .f32⟩
  | .hbm, ⟨24, _⟩ => ⟨S512x3584, .bf16⟩
  | .local _ .vmem, ⟨0, _⟩ => ⟨S512x5120, .fp8e4m3⟩
  | .local _ .vmem, ⟨1, _⟩ => ⟨S512x1, .f32⟩
  | .local _ .vmem, ⟨2, _⟩ => ⟨S5120x512, .fp8e4m3⟩
  | .local _ .vmem, ⟨3, _⟩ => ⟨S5120x512, .fp8e4m3⟩
  | .local _ .vmem, ⟨4, _⟩ => ⟨S1x512, .f32⟩
  | .local _ .vmem, ⟨5, _⟩ => ⟨S1x512, .f32⟩
  | .local _ .vmem, ⟨6, _⟩ => ⟨S512x1, .i32⟩
  | .local _ .vmem, ⟨7, _⟩ => ⟨S1x512, .i32⟩
  | .local _ .vmem, ⟨8, _⟩ => ⟨S1x128, .f32⟩
  | .local _ .vmem, ⟨9, _⟩ => ⟨S512x512, .bf16⟩
  | .local _ .vmem, ⟨10, _⟩ => ⟨S512x512, .bf16⟩
  | .local _ .vmem, ⟨11, _⟩ => ⟨S512x128, .f32⟩
  | .local _ .vmem, ⟨12, _⟩ => ⟨S512x128, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v12 : BitVec 1 := Scalar.cmpi .slt arg0 c6_i32
  let v13 : BitVec 32 := Scalar.extui v12
  let c0_i32_8 : BitVec 32 := 0#32
  let v14 : BitVec 1 := Scalar.cmpi .ne v13 c0_i32_8
  v14

def k0_cond3 (i : grid0.Coords) : BitVec 1 :=
  let arg0 : BitVec 32 := BitVec.ofNat 32 (i 0).val
  let c6_i32_9 : BitVec 32 := 6#32
  let v15 : BitVec 1 := Scalar.cmpi .sge arg0 c6_i32_9
  let v16 : BitVec 32 := Scalar.extui v15
  let c0_i32_10 : BitVec 32 := 0#32
  let v17 : BitVec 1 := Scalar.cmpi .ne v16 c0_i32_10
  v17

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5120x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Gu.lean ====
abbrev S512x5120 : Shape := ⟨2, ![512, 5120]⟩
abbrev S512x1 : Shape := ⟨2, ![512, 1]⟩
abbrev S5120x13824 : Shape := ⟨2, ![5120, 13824]⟩
abbrev S1x13824 : Shape := ⟨2, ![1, 13824]⟩
abbrev S512x6912 : Shape := ⟨2, ![512, 6912]⟩
abbrev S5120x768 : Shape := ⟨2, ![5120, 768]⟩
abbrev S1x768 : Shape := ⟨2, ![1, 768]⟩
abbrev S512x768 : Shape := ⟨2, ![512, 768]⟩

abbrev nBuf : Space → Nat
  | .hbm => 5
  | .vmem => 12
  | .smem => 0
  | _ => 0

abbrev bufTy : (tb : Table) → Fin (tcTables nBuf tb) → BufTy
  | .hbm, ⟨0, _⟩ => ⟨S512x5120, .fp8e4m3⟩
  | .hbm, ⟨1, _⟩ => ⟨S512x1, .f32⟩
  | .hbm, ⟨2, _⟩ => ⟨S5120x13824, .fp8e4m3⟩
  | .hbm, ⟨3, _⟩ => ⟨S1x13824, .f32⟩
  | .hbm, ⟨4, _⟩ => ⟨S512x6912, .f32⟩
  | .local _ .vmem, ⟨0, _⟩ => ⟨S512x5120, .fp8e4m3⟩
  | .local _ .vmem, ⟨1, _⟩ => ⟨S512x1, .f32⟩
  | .local _ .vmem, ⟨2, _⟩ => ⟨S5120x768, .fp8e4m3⟩
  | .local _ .vmem, ⟨3, _⟩ => ⟨S5120x768, .fp8e4m3⟩
  | .local _ .vmem, ⟨4, _⟩ => ⟨S5120x768, .fp8e4m3⟩
  | .local _ .vmem, ⟨5, _⟩ => ⟨S5120x768, .fp8e4m3⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S512x768, .f32⟩
  | .local _ .vmem, ⟨11, _⟩ => ⟨S512x768, .f32⟩
  | _, _ => ⟨S512x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5120x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GuRefIdeal.lean ====
abbrev S512x5120 : Shape := ⟨2, ![512, 5120]⟩
abbrev S512x1 : Shape := ⟨2, ![512, 1]⟩
abbrev S5120x13824 : Shape := ⟨2, ![5120, 13824]⟩
abbrev S1x13824 : Shape := ⟨2, ![1, 13824]⟩
abbrev S512x6912 : Shape := ⟨2, ![512, 6912]⟩
abbrev S512x13824 : Shape := ⟨2, ![512, 13824]⟩

abbrev nBuf : Space → Nat
  | .hbm => 5
  | .vmem => 5
  | .smem => 0
  | _ => 0

abbrev bufTy : (tb : Table) → Fin (tcTables nBuf tb) → BufTy
  | .hbm, ⟨0, _⟩ => ⟨S512x5120, .fp8e4m3⟩
  | .hbm, ⟨1, _⟩ => ⟨S512x1, .f32⟩
  | .hbm, ⟨2, _⟩ => ⟨S5120x13824, .fp8e4m3⟩
  | .hbm, ⟨3, _⟩ => ⟨S1x13824, .f32⟩
  | .hbm, ⟨4, _⟩ => ⟨S512x6912, .f32⟩
  | .local _ .vmem, ⟨0, _⟩ => ⟨S512x5120, .fp8e4m3⟩
  | .local _ .vmem, ⟨1, _⟩ => ⟨S512x1, .f32⟩
  | .local _ .vmem, ⟨2, _⟩ => ⟨S5120x13824, .fp8e4m3⟩
  | .local _ .vmem, ⟨3, _⟩ => ⟨S1x13824, .f32⟩
  | .local _ .vmem, ⟨4, _⟩ => ⟨S512x6912, .f32⟩
  | _, _ => ⟨S512x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S512x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x13824 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x13824 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Attn.lean ====
abbrev S512x3584 : Shape := ⟨2, ![512, 3584]⟩
abbrev S1x512 : Shape := ⟨2, ![1, 512]⟩
abbrev S512x1 : Shape := ⟨2, ![512, 1]⟩
abbrev S512x2560 : Shape := ⟨2, ![512, 2560]⟩
abbrev S512x640 : Shape := ⟨2, ![512, 640]⟩
abbrev S512x128 : Shape := ⟨2, ![512, 128]⟩
abbrev S4x512x640 : Shape := ⟨3, ![4, 512, 640]⟩
abbrev S512x512 : Shape := ⟨2, ![512, 512]⟩
abbrev S512 : Shape := ⟨1, ![512]⟩
abbrev S1x512x128 : Shape := ⟨3, ![1, 512, 128]⟩
abbrev S1x512x640 : Shape := ⟨3, ![1, 512, 640]⟩
abbrev S512x256 : Shape := ⟨2, ![512, 256]⟩

abbrev nBuf : Space → Nat
  | .hbm => 5
  | .vmem => 11
  | .smem => 0
  | _ => 0

abbrev bufTy : (tb : Table) → Fin (tcTables nBuf tb) → BufTy
  | .hbm, ⟨0, _⟩ => ⟨S512x3584, .bf16⟩
  | .hbm, ⟨1, _⟩ => ⟨S1x512, .i32⟩
  | .hbm, ⟨2, _⟩ => ⟨S512x1, .i32⟩
  | .hbm, ⟨3, _⟩ => ⟨S512x2560, .fp8e4m3⟩
  | .hbm, ⟨4, _⟩ => ⟨S512x1, .f32⟩
  | .local _ .vmem, ⟨0, _⟩ => ⟨S512x640, .bf16⟩
  | .local _ .vmem, ⟨1, _⟩ => ⟨S512x640, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x1, .i32⟩
  | .local _ .vmem, ⟨7, _⟩ => ⟨S1x512, .i32⟩
  | .local _ .vmem, ⟨8, _⟩ => ⟨S512x2560, .fp8e4m3⟩
  | .local _ .vmem, ⟨9, _⟩ => ⟨S512x1, .f32⟩
  | .local _ .vmem, ⟨10, _⟩ => ⟨S4x512x640, .f32⟩
  | _, _ => ⟨S512x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let arg0 : BitVec 32 := BitVec.ofNat 32 (i 0).val
  let v29 : Index := Scalar.indexCast arg0
  let c0_14 : Index := 0#32
  let c0_15 : Index := 0#32
  ![v29.toNat, 0, 0]
def k0_off2 (i : grid0.Coords) : Fin 3 → Nat :=
  let arg0 : BitVec 32 := BitVec.ofNat 32 (i 0).val
  let v50 : Index := Scalar.indexCast arg0
  let c0_23 : Index := 0#32
  let c128_24 : Index := 128#32
  ![v50.toNat, 0, 128]
def k0_off3 (i : grid0.Coords) : Fin 3 → Nat :=
  let arg0 : BitVec 32 := BitVec.ofNat 32 (i 0).val
  let v71 : Index := Scalar.indexCast arg0
  let c0_32 : Index := 0#32
  let c256_33 : Index := 256#32
  ![v71.toNat, 0, 256]
def k0_off4 (i : grid0.Coords) : Fin 3 → Nat :=
  let arg0 : BitVec 32 := BitVec.ofNat 32 (i 0).val
  let v92 : Index := Scalar.indexCast arg0
  let c0_41 : Index := 0#32
  let c384_42 : Index := 384#32
  ![v92.toNat, 0, 384]
def k0_off5 (i : grid0.Coords) : Fin 3 → Nat :=
  let arg0 : BitVec 32 := BitVec.ofNat 32 (i 0).val
  let v113 : Index := Scalar.indexCast arg0
  let c0_50 : Index := 0#32
  let c512_51 : Index := 512#32
  ![v113.toNat, 0, 512]
def k0_cond1 (i : grid0.Coords) : BitVec 1 :=
  let arg0 : BitVec 32 := BitVec.ofNat 32 (i 0).val
  let c3_i32 : BitVec 32 := 3#32
  let v117 : BitVec 1 := Scalar.cmpi .eq arg0 c3_i32
  let v118 : BitVec 32 := Scalar.extui v117
  let c0_i32 : BitVec 32 := 0#32
  let v119 : BitVec 1 := Scalar.cmpi .ne v118 c0_i32
  v119

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnRefIdeal.lean ====
abbrev S512x3584 : Shape := ⟨2, ![512, 3584]⟩
abbrev S1x512 : Shape := ⟨2, ![1, 512]⟩
abbrev S512x2560 : Shape := ⟨2, ![512, 2560]⟩
abbrev S512x4x5x128 : Shape := ⟨4, ![512, 4, 5, 128]⟩
abbrev S512x512 : Shape := ⟨2, ![512, 512]⟩
abbrev S512x4x128 : Shape := ⟨3, ![512, 4, 128]⟩
abbrev S4x512x512x5 : Shape := ⟨4, ![4, 512, 512, 5]⟩
abbrev S4x5x512x512 : Shape := ⟨4, ![4, 5, 512, 512]⟩
abbrev S_ : Shape := ⟨0, ![]⟩
abbrev S512 : Shape := ⟨1, ![512]⟩
abbrev S512x1 : Shape := ⟨2, ![512, 1]⟩
abbrev S1x1x512x512 : Shape := ⟨4, ![1, 1, 512, 512]⟩
abbrev S4x5x512 : Shape := ⟨3, ![4, 5, 512]⟩
abbrev S4x5x512x1 : Shape := ⟨4, ![4, 5, 512, 1]⟩
abbrev S4x128x5x512 : Shape := ⟨4, ![4, 128, 5, 512]⟩

abbrev nBuf : Space → Nat
  | .hbm => 53
  | .vmem => 3
  | .smem => 0
  | _ => 0

abbrev bufTy : (tb : Table) → Fin (tcTables nBuf tb) → BufTy
  | .hbm, ⟨0, _⟩ => ⟨S512x3584, .bf16⟩
  | .hbm, ⟨1, _⟩ => ⟨S1x512, .i32⟩
  | .hbm, ⟨2, _⟩ => ⟨S512x2560, .bf16⟩
  | .hbm, ⟨3, _⟩ => ⟨S512x4x5x128, .bf16⟩
  | .hbm, ⟨4, _⟩ => ⟨S512x512, .bf16⟩
  | .hbm, ⟨5, _⟩ => ⟨S512x4x128, .bf16⟩
  | .hbm, ⟨6, _⟩ => ⟨S512x512, .bf16⟩
  | .hbm, ⟨7, _⟩ => ⟨S512x4x128, .bf16⟩
  | .hbm, ⟨8, _⟩ => ⟨S4x512x512x5, .f32⟩
  | .hbm, ⟨9, _⟩ => ⟨S4x5x512x512, .f32⟩
  | .hbm, ⟨10, _⟩ => ⟨S_, .f32⟩
  | .hbm, ⟨11, _⟩ => ⟨S4x5x512x512, .f32⟩
  | .hbm, ⟨12, _⟩ => ⟨S4x5x512x512, .f32⟩
  | .hbm, ⟨13, _⟩ => ⟨S512, .i32⟩
  | .hbm, ⟨14, _⟩ => ⟨S512, .i32⟩
  | .hbm, ⟨15, _⟩ => ⟨S512x1, .i32⟩
  | .hbm, ⟨16, _⟩ => ⟨S512, .i32⟩
  | .hbm, ⟨17, _⟩ => ⟨S1x512, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S512x1, .i32⟩
  | .hbm, ⟨22, _⟩ => ⟨S1x512, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x512, .i1⟩
  | .hbm, ⟨27, _⟩ => ⟨S1x1x512x512, .i1⟩
  | .hbm, ⟨28, _⟩ => ⟨S_, .f32⟩
  | .hbm, ⟨29, _⟩ => ⟨S_, .f32⟩
  | .hbm, ⟨30, _⟩ => ⟨S4x5x512x512, .i1⟩
  | .hbm, ⟨31, _⟩ => ⟨S4x5x512x512, .f32⟩
  | .hbm, ⟨32, _⟩ => ⟨S4x5x512x512, .f32⟩
  | .hbm, ⟨33, _⟩ => ⟨S_, .f32⟩
  | .hbm, ⟨34, _⟩ => ⟨S4x5x512, .f32⟩
  | .hbm, ⟨35, _⟩ => ⟨S_, .f32⟩
  | .hbm, ⟨36, _⟩ => ⟨S4x5x512, .f32⟩
  | .hbm, ⟨37, _⟩ => ⟨S4x5x512, .f32⟩
  | .hbm, ⟨38, _⟩ => ⟨S4x5x512x1, .f32⟩
  | .hbm, ⟨39, _⟩ => ⟨S4x5x512x512, .f32⟩
  | .hbm, ⟨40, _⟩ => ⟨S4x5x512x512, .f32⟩
  | .hbm, ⟨41, _⟩ => ⟨S4x5x512x512, .f32⟩
  | .hbm, ⟨42, _⟩ => ⟨S_, .f32⟩
  | .hbm, ⟨43, _⟩ => ⟨S4x5x512, .f32⟩
  | .hbm, ⟨44, _⟩ => ⟨S4x5x512x1, .f32⟩
  | .hbm, ⟨45, _⟩ => ⟨S4x5x512x512, .f32⟩
  | .hbm, ⟨46, _⟩ => ⟨S4x5x512x512, .f32⟩
  | .hbm, ⟨47, _⟩ => ⟨S4x5x512x512, .bf16⟩
  | .hbm, ⟨48, _⟩ => ⟨S4x128x5x512, .f32⟩
  | .hbm, ⟨49, _⟩ => ⟨S512x4x5x128, .f32⟩
  | .hbm, ⟨50, _⟩ => ⟨S512x2560, .f32⟩
  | .hbm, ⟨51, _⟩ => ⟨S512x2560, .fp8e4m3⟩
  | .hbm, ⟨52, _⟩ => ⟨S512x1, .f32⟩
  | .local _ .vmem, ⟨0, _⟩ => ⟨S512x2560, .f32⟩
  | .local _ .vmem, ⟨1, _⟩ => ⟨S512x2560, .fp8e4m3⟩
  | .local _ .vmem, ⟨2, _⟩ => ⟨S512x1, .f32⟩
  | _, _ => ⟨S512x3584, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41_0 : Ref sig .tc := ⟨.hbm, 51, rfl⟩
abbrev main_v41_1 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S512x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Out.lean ====
abbrev S1x512x5120 : Shape := ⟨3, ![1, 512, 5120]⟩
abbrev S512x6912 : Shape := ⟨2, ![512, 6912]⟩
abbrev S512x2560 : Shape := ⟨2, ![512, 2560]⟩
abbrev S512x1 : Shape := ⟨2, ![512, 1]⟩
abbrev S2560x5120 : Shape := ⟨2, ![2560, 5120]⟩
abbrev S1x5120 : Shape := ⟨2, ![1, 5120]⟩
abbrev S6912x5120 : Shape := ⟨2, ![6912, 5120]⟩
abbrev S512x5120 : Shape := ⟨2, ![512, 5120]⟩
abbrev S512x512 : Shape := ⟨2, ![512, 512]⟩
abbrev S2560x512 : Shape := ⟨2, ![2560, 512]⟩
abbrev S1x512 : Shape := ⟨2, ![1, 512]⟩
abbrev S6912x512 : Shape := ⟨2, ![6912, 512]⟩
abbrev S512 : Shape := ⟨1, ![512]⟩
abbrev S512x256 : Shape := ⟨2, ![512, 256]⟩

abbrev nBuf : Space → Nat
  | .hbm => 12
  | .vmem => 17
  | .smem => 0
  | _ => 0

abbrev bufTy : (tb : Table) → Fin (tcTables nBuf tb) → BufTy
  | .hbm, ⟨0, _⟩ => ⟨S1x512x5120, .bf16⟩
  | .hbm, ⟨1, _⟩ => ⟨S512x6912, .f32⟩
  | .hbm, ⟨2, _⟩ => ⟨S512x2560, .fp8e4m3⟩
  | .hbm, ⟨3, _⟩ => ⟨S512x1, .f32⟩
  | .hbm, ⟨4, _⟩ => ⟨S2560x5120, .fp8e4m3⟩
  | .hbm, ⟨5, _⟩ => ⟨S1x5120, .f32⟩
  | .hbm, ⟨6, _⟩ => ⟨S6912x5120, .fp8e4m3⟩
  | .hbm, ⟨7, _⟩ => ⟨S1x5120, .f32⟩
  | .hbm, ⟨8, _⟩ => ⟨S512x5120, .bf16⟩
  | .hbm, ⟨9, _⟩ => ⟨S512x5120, .bf16⟩
  | .hbm, ⟨10, _⟩ => ⟨S512x6912, .fp8e4m3⟩
  | .hbm, ⟨11, _⟩ => ⟨S512x1, .f32⟩
  | .local _ .vmem, ⟨0, _⟩ => ⟨S512x512, .bf16⟩
  | .local _ .vmem, ⟨1, _⟩ => ⟨S512x512, .bf16⟩
  | .local _ .vmem, ⟨2, _⟩ => ⟨S512x6912, .f32⟩
  | .local _ .vmem, ⟨3, _⟩ => ⟨S512x2560, .fp8e4m3⟩
  | .local _ .vmem, ⟨4, _⟩ => ⟨S512x1, .f32⟩
  | .local _ .vmem, ⟨5, _⟩ => ⟨S2560x512, .fp8e4m3⟩
  | .local _ .vmem, ⟨6, _⟩ => ⟨S2560x512, .fp8e4m3⟩
  | .local _ .vmem, ⟨7, _⟩ => ⟨S1x512, .f32⟩
  | .local _ .vmem, ⟨8, _⟩ => ⟨S1x512, .f32⟩
  | .local _ .vmem, ⟨9, _⟩ => ⟨S6912x512, .fp8e4m3⟩
  | .local _ .vmem, ⟨10, _⟩ => ⟨S6912x512, .fp8e4m3⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S512x512, .bf16⟩
  | .local _ .vmem, ⟨15, _⟩ => ⟨S512x6912, .fp8e4m3⟩
  | .local _ .vmem, ⟨16, _⟩ => ⟨S512x1, .f32⟩
  | _, _ => ⟨S1x512x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x6912 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2560x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6912x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x6912 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OutRefIdeal.lean ====
abbrev S1x512x5120 : Shape := ⟨3, ![1, 512, 5120]⟩
abbrev S512x6912 : Shape := ⟨2, ![512, 6912]⟩
abbrev S512x2560 : Shape := ⟨2, ![512, 2560]⟩
abbrev S512x1 : Shape := ⟨2, ![512, 1]⟩
abbrev S2560x5120 : Shape := ⟨2, ![2560, 5120]⟩
abbrev S1x5120 : Shape := ⟨2, ![1, 5120]⟩
abbrev S6912x5120 : Shape := ⟨2, ![6912, 5120]⟩
abbrev S512x5120 : Shape := ⟨2, ![512, 5120]⟩
abbrev S512 : Shape := ⟨1, ![512]⟩

abbrev nBuf : Space → Nat
  | .hbm => 12
  | .vmem => 11
  | .smem => 0
  | _ => 0

abbrev bufTy : (tb : Table) → Fin (tcTables nBuf tb) → BufTy
  | .hbm, ⟨0, _⟩ => ⟨S1x512x5120, .bf16⟩
  | .hbm, ⟨1, _⟩ => ⟨S512x6912, .f32⟩
  | .hbm, ⟨2, _⟩ => ⟨S512x2560, .fp8e4m3⟩
  | .hbm, ⟨3, _⟩ => ⟨S512x1, .f32⟩
  | .hbm, ⟨4, _⟩ => ⟨S2560x5120, .fp8e4m3⟩
  | .hbm, ⟨5, _⟩ => ⟨S1x5120, .f32⟩
  | .hbm, ⟨6, _⟩ => ⟨S6912x5120, .fp8e4m3⟩
  | .hbm, ⟨7, _⟩ => ⟨S1x5120, .f32⟩
  | .hbm, ⟨8, _⟩ => ⟨S512x5120, .bf16⟩
  | .hbm, ⟨9, _⟩ => ⟨S512x5120, .bf16⟩
  | .hbm, ⟨10, _⟩ => ⟨S512x6912, .fp8e4m3⟩
  | .hbm, ⟨11, _⟩ => ⟨S512x1, .f32⟩
  | .local _ .vmem, ⟨0, _⟩ => ⟨S512x5120, .bf16⟩
  | .local _ .vmem, ⟨1, _⟩ => ⟨S512x6912, .f32⟩
  | .local _ .vmem, ⟨2, _⟩ => ⟨S512x2560, .fp8e4m3⟩
  | .local _ .vmem, ⟨3, _⟩ => ⟨S512x1, .f32⟩
  | .local _ .vmem, ⟨4, _⟩ => ⟨S2560x5120, .fp8e4m3⟩
  | .local _ .vmem, ⟨5, _⟩ => ⟨S1x5120, .f32⟩
  | .local _ .vmem, ⟨6, _⟩ => ⟨S6912x5120, .fp8e4m3⟩
  | .local _ .vmem, ⟨7, _⟩ => ⟨S1x5120, .f32⟩
  | .local _ .vmem, ⟨8, _⟩ => ⟨S512x5120, .bf16⟩
  | .local _ .vmem, ⟨9, _⟩ => ⟨S512x6912, .fp8e4m3⟩
  | .local _ .vmem, ⟨10, _⟩ => ⟨S512x1, .f32⟩
  | _, _ => ⟨S1x512x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S512x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x6912 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6912x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x6912 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.AttnFrame.lean ====
/- The frame of the attention call. -/
module

public import proofs.«01_k».proof.Proof.Gen.Attn.Frame
public import proofs.«01_k».proof.Proof.Gen.Attn.Skeleton
public import Idealize.ShloMosaic.Lib.Pipeline.TableIdle
public import Idealize.ShloMosaic.Lib.Claim
public import Idealize.ShloMosaic.Lib.ValueIdxCore

@[expose] public section

set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body quantises. -/
abbrev cond0_0 (i : grid0.Coords) : Prop := k0_cond1 i = 1#1

/-- It holds at the last point only. -/
theorem hcond0_0 : ∀ t : Fin cfg0.N, cond0_0 (grid0.coords t) ↔ t.val = 3 :=
  (fun t => by
    have ht : t.val < 4 := Nat.lt_of_lt_of_eq t.isLt N_0
    have e0 : (grid0.coords t 0).val = t.val / 1 % 4 := Pipeline.Grid.coords_val t 0 (by decide) rfl
    have e1 : t.val = 3 ↔ t.val % 4 = 3 := by omega
    rw [e1]
    simp only [cond0_0, k0_cond1, e0]
    word_cmp
   : ∀ t : Fin grid0.N, cond0_0 (grid0.coords t) ↔ t.val = 3)

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cond0_0 (grid0.coords t) → cfg0.idle 5 (grid0.coords t) = false := fun t h => by
  show (!(k0_cond1 (grid0.coords t) == 1#1)) = false
  rw [show k0_cond1 (grid0.coords t) = 1#1 from h]; rfl
theorem idle0_5 : ∀ t : Fin cfg0.N, ¬cond0_0 (grid0.coords t) → cfg0.idle 5 (grid0.coords t) = true := fun t h => by
  show (!(k0_cond1 (grid0.coords t) == 1#1)) = true
  rw [Bool.not_eq_true', beq_eq_false_iff_ne]; exact h
theorem live0_6 : ∀ t : Fin cfg0.N, cond0_0 (grid0.coords t) → cfg0.idle 6 (grid0.coords t) = false := fun t h => by
  show (!(k0_cond1 (grid0.coords t) == 1#1)) = false
  rw [show k0_cond1 (grid0.coords t) = 1#1 from h]; rfl
theorem idle0_6 : ∀ t : Fin cfg0.N, ¬cond0_0 (grid0.coords t) → cfg0.idle 6 (grid0.coords t) = true := fun t h => by
  show (!(k0_cond1 (grid0.coords t) == 1#1)) = true
  rw [Bool.not_eq_true', beq_eq_false_iff_ne]; exact h
abbrev ms0_0 (t : Fin cfg0.N) : Memref sig .tc .vmem S512x640 .bf16 := win0_0.stage (cfg0.slots t 0)
abbrev ms0_1 (t : Fin cfg0.N) : Memref sig .tc .vmem S512x128 .bf16 := win0_1.stage (cfg0.slots t 1)
abbrev ms0_2 (t : Fin cfg0.N) : Memref sig .tc .vmem S512x128 .bf16 := win0_2.stage (cfg0.slots t 2)
abbrev ms0_3 (t : Fin cfg0.N) : Memref sig .tc .vmem S512x1 .i32 := win0_3.stage (cfg0.slots t 3)
abbrev ms0_4 (t : Fin cfg0.N) : Memref sig .tc .vmem S1x512 .i32 := win0_4.stage (cfg0.slots t 4)
abbrev ms0_5 (t : Fin cfg0.N) : Memref sig .tc .vmem S512x2560 .fp8e4m3 := win0_5.stage (cfg0.slots t 5)
abbrev ms0_6 (t : Fin cfg0.N) : Memref sig .tc .vmem S512x1 .f32 := win0_6.stage (cfg0.slots t 6)
/-- The scratch. -/
abbrev scM0_0 : Memref sig .tc .vmem S4x512x640 .f32 := Memref.whole cc0_scratch0
/-- The whole of a buffer of this shape. -/
abbrev r_S512x128 : Rect S512x128 := Rect.unit (s := S512x128) ![0, 0] S512x128.size inb_S512x128_S512x128_0_0
/-- The whole of a buffer of this shape. -/
abbrev r_S512x1 : Rect S512x1 := Rect.unit (s := S512x1) ![0, 0] S512x1.size inb_S512x1_S512x1_0_0
/-- The whole of a buffer of this shape. -/
abbrev r_S1x512 : Rect S1x512 := Rect.unit (s := S1x512) ![0, 0] S1x512.size inb_S1x512_S1x512_0_0
/-- Head 0's columns of a block of queries. -/
abbrev r_q0 : Rect S512x640 := Rect.unit (s := S512x640) ![0, 0] S512x128.size inb_S512x640_S512x128_0_0
/-- Head 1's columns of a block of queries. -/
abbrev r_q1 : Rect S512x640 := Rect.unit (s := S512x640) ![0, 128] S512x128.size inb_S512x640_S512x128_0_128
/-- Head 2's columns of a block of queries. -/
abbrev r_q2 : Rect S512x640 := Rect.unit (s := S512x640) ![0, 256] S512x128.size inb_S512x640_S512x128_0_256
/-- Head 3's columns of a block of queries. -/
abbrev r_q3 : Rect S512x640 := Rect.unit (s := S512x640) ![0, 384] S512x128.size inb_S512x640_S512x128_0_384
/-- Head 4's columns of a block of queries. -/
abbrev r_q4 : Rect S512x640 := Rect.unit (s := S512x640) ![0, 512] S512x128.size inb_S512x640_S512x128_0_512
/-- Head 0's place in the scratch at a point. -/
abbrev r_s0 (i : grid0.Coords) : Rect S4x512x640 := Rect.unit (s := S4x512x640) (k0_off1 i) S1x512x128.size (k0_off1_inb i)
/-- Head 1's place in the scratch at a point. -/
abbrev r_s1 (i : grid0.Coords) : Rect S4x512x640 := Rect.unit (s := S4x512x640) (k0_off2 i) S1x512x128.size (k0_off2_inb i)
/-- Head 2's place in the scratch at a point. -/
abbrev r_s2 (i : grid0.Coords) : Rect S4x512x640 := Rect.unit (s := S4x512x640) (k0_off3 i) S1x512x128.size (k0_off3_inb i)
/-- Head 3's place in the scratch at a point. -/
abbrev r_s3 (i : grid0.Coords) : Rect S4x512x640 := Rect.unit (s := S4x512x640) (k0_off4 i) S1x512x128.size (k0_off4_inb i)
/-- Head 4's place in the scratch at a point. -/
abbrev r_s4 (i : grid0.Coords) : Rect S4x512x640 := Rect.unit (s := S4x512x640) (k0_off5 i) S1x512x128.size (k0_off5_inb i)
/-- Slice 0 of the scratch. -/
abbrev r_g0 : Rect S4x512x640 := Rect.unit (s := S4x512x640) ![0, 0, 0] S1x512x640.size inb_S4x512x640_S1x512x640_0_0_0
/-- Slice 1 of the scratch. -/
abbrev r_g1 : Rect S4x512x640 := Rect.unit (s := S4x512x640) ![1, 0, 0] S1x512x640.size inb_S4x512x640_S1x512x640_1_0_0
/-- Slice 2 of the scratch. -/
abbrev r_g2 : Rect S4x512x640 := Rect.unit (s := S4x512x640) ![2, 0, 0] S1x512x640.size inb_S4x512x640_S1x512x640_2_0_0
/-- Slice 3 of the scratch. -/
abbrev r_g3 : Rect S4x512x640 := Rect.unit (s := S4x512x640) ![3, 0, 0] S1x512x640.size inb_S4x512x640_S1x512x640_3_0_0
/-- Slice 0's columns of the codes. -/
abbrev r_c0 : Rect S512x2560 := Rect.unit (s := S512x2560) ![0, 0] S512x640.size inb_S512x2560_S512x640_0_0
/-- Slice 1's columns of the codes. -/
abbrev r_c1 : Rect S512x2560 := Rect.unit (s := S512x2560) ![0, 640] S512x640.size inb_S512x2560_S512x640_0_640
/-- Slice 2's columns of the codes. -/
abbrev r_c2 : Rect S512x2560 := Rect.unit (s := S512x2560) ![0, 1280] S512x640.size inb_S512x2560_S512x640_0_1280
/-- Slice 3's columns of the codes. -/
abbrev r_c3 : Rect S512x2560 := Rect.unit (s := S512x2560) ![0, 1920] S512x640.size inb_S512x2560_S512x640_0_1920

/-- What head 0 of a point stores. -/
def head0 (x0 : Vec F S512x640 .bf16) (x1 : Vec F S512x128 .bf16) (x2 : Vec F S512x128 .bf16) (x3 : Vec F S512x1 .i32) (x4 : Vec F S1x512 .i32) : Vec F S1x512x128 .f32 :=
  k0_pay13 (View.ld x3 r_S512x1) (View.ld x4 r_S1x512) (View.ld x1 r_S512x128) (View.ld x2 r_S512x128) (View.ld x0 r_q0)
/-- What head 1 of a point stores. -/
def head1 (x0 : Vec F S512x640 .bf16) (x1 : Vec F S512x128 .bf16) (x2 : Vec F S512x128 .bf16) (x3 : Vec F S512x1 .i32) (x4 : Vec F S1x512 .i32) : Vec F S1x512x128 .f32 :=
  k0_pay16 (k0_pay12 (View.ld x3 r_S512x1) (View.ld x4 r_S1x512)) (View.ld x2 r_S512x128) (k0_pay14 (View.ld x1 r_S512x128) (View.ld x0 r_q1)) (k0_pay15 (F := F))
/-- What head 2 of a point stores. -/
def head2 (x0 : Vec F S512x640 .bf16) (x1 : Vec F S512x128 .bf16) (x2 : Vec F S512x128 .bf16) (x3 : Vec F S512x1 .i32) (x4 : Vec F S1x512 .i32) : Vec F S1x512x128 .f32 :=
  k0_pay17 (k0_pay12 (View.ld x3 r_S512x1) (View.ld x4 r_S1x512)) (View.ld x1 r_S512x128) (View.ld x2 r_S512x128) (View.ld x0 r_q2)
/-- What head 3 of a point stores. -/
def head3 (x0 : Vec F S512x640 .bf16) (x1 : Vec F S512x128 .bf16) (x2 : Vec F S512x128 .bf16) (x3 : Vec F S512x1 .i32) (x4 : Vec F S1x512 .i32) : Vec F S1x512x128 .f32 :=
  k0_pay18 (k0_pay12 (View.ld x3 r_S512x1) (View.ld x4 r_S1x512)) (View.ld x1 r_S512x128) (View.ld x2 r_S512x128) (View.ld x0 r_q3)
/-- What head 4 of a point stores. -/
def head4 (x0 : Vec F S512x640 .bf16) (x1 : Vec F S512x128 .bf16) (x2 : Vec F S512x128 .bf16) (x3 : Vec F S512x1 .i32) (x4 : Vec F S1x512 .i32) : Vec F S1x512x128 .f32 :=
  k0_pay19 (k0_pay12 (View.ld x3 r_S512x1) (View.ld x4 r_S1x512)) (View.ld x1 r_S512x128) (View.ld x2 r_S512x128) (View.ld x0 r_q4)

/-- The pieces a point stores in the scratch, the last first. -/
def pieces (i : grid0.Coords) (x0 : Vec F S512x640 .bf16) (x1 : Vec F S512x128 .bf16) (x2 : Vec F S512x128 .bf16) (x3 : Vec F S512x1 .i32) (x4 : Vec F S1x512 .i32) : List (View.Piece (Elt F) S4x512x640 .f32) :=
  [⟨r_s4 i, head4 x0 x1 x2 x3 x4⟩, ⟨r_s3 i, head3 x0 x1 x2 x3 x4⟩, ⟨r_s2 i, head2 x0 x1 x2 x3 x4⟩, ⟨r_s1 i, head1 x0 x1 x2 x3 x4⟩, ⟨r_s0 i, head0 x0 x1 x2 x3 x4⟩]

/-- Contents with pieces stored over them, the last first. -/
def over (s : Vec F S4x512x640 .f32) : List (View.Piece (Elt F) S4x512x640 .f32) → Vec F S4x512x640 .f32
  | [] => s
  | p :: L => p.1.overlay (over s L) p.2

/-- What a view reads after stores is what it read before with the pieces over it. -/
theorem read_writes_over {sg : RefSig} {κ : Kind} {sp : Space} (v : View sg κ sp S4x512x640 .f32) (f : v.ty.Contents (Elt F)) :
    ∀ L : List (View.Piece (Elt F) S4x512x640 .f32), v.read (Elt F) (v.writes (Elt F) f L) = over (v.read (Elt F) f) L
  | [] => rfl
  | p :: L => by
    funext y
    show _ = p.1.overlay (over (v.read (Elt F) f) L) p.2 y
    by_cases hy : y ∈ p.1.set
    · obtain ⟨r, w⟩ := p
      obtain ⟨x, rfl⟩ : ∃ x, r.emb x = y := r.exists_idx_of_mem hy
      rw [View.read_writes_cons_emb, Rect.overlay_emb]
    · have hy' : y ∉ Finset.univ.map p.1.emb := by rwa [Rect.map_emb_univ]
      rw [View.writes_cons, View.read_slice_write_of_not_mem p.1 _ _ _ hy', Rect.overlay_of_not_mem _ _ _ hy, read_writes_over v f L]

/-- The scale the last point stores, of the scratch's contents. -/
def sc (s : Vec F S4x512x640 .f32) : Vec F S512x1 .f32 :=
  k0_pay6 (k0_pay2 (View.ld s r_g0) (View.ld s r_g1) (View.ld s r_g2) (View.ld s r_g3)) (k0_pay3 (View.ld s r_g0) (View.ld s r_g1) (View.ld s r_g2) (View.ld s r_g3)) (k0_pay4 (View.ld s r_g0) (View.ld s r_g1) (View.ld s r_g2) (View.ld s r_g3))
/-- Its reciprocal. -/
def rc (s : Vec F S4x512x640 .f32) : Vec F S512x1 .f32 :=
  k0_pay7 (k0_pay2 (View.ld s r_g0) (View.ld s r_g1) (View.ld s r_g2) (View.ld s r_g3)) (k0_pay3 (View.ld s r_g0) (View.ld s r_g1) (View.ld s r_g2) (View.ld s r_g3)) (k0_pay4 (View.ld s r_g0) (View.ld s r_g1) (View.ld s r_g2) (View.ld s r_g3))

/-- What is left in the scale's buffer. -/
def out0_6 (s : Vec F S4x512x640 .f32) : Vec F S512x1 .f32 := View.canon [⟨r_S512x1, sc s⟩]

/-- What is left in the codes' buffer. -/
def out0_5 (s : Vec F S4x512x640 .f32) : Vec F S512x2560 .fp8e4m3 :=
  View.canon [⟨r_c3, k0_pay1 (k0_pay11 (rc s) (View.ld s r_g3))⟩, ⟨r_c2, k0_pay10 (rc s) (View.ld s r_g2)⟩, ⟨r_c1, k0_pay9 (rc s) (View.ld s r_g1)⟩, ⟨r_c0, k0_pay8 (rc s) (View.ld s r_g0)⟩]

theorem cover_S512x1 (p0 : Vec F S512x1 .f32) (y : S512x1.Idx) :
    ∃ pc ∈ ([⟨r_S512x1, p0⟩] : List (View.Piece (Elt F) S512x1 .f32)), y ∈ pc.1.set :=
  View.cover_of_tiled [⟨r_S512x1, p0⟩] S512x1.size (by rfl) y

theorem cover_S512x2560 (p0 p1 p2 p3 : Vec F S512x640 .fp8e4m3) (y : S512x2560.Idx) :
    ∃ pc ∈ ([⟨r_c3, p3⟩, ⟨r_c2, p2⟩, ⟨r_c1, p1⟩, ⟨r_c0, p0⟩] : List (View.Piece (Elt F) S512x2560 .fp8e4m3)), y ∈ pc.1.set :=
  View.cover_of_tiled [⟨r_c3, p3⟩, ⟨r_c2, p2⟩, ⟨r_c1, p1⟩, ⟨r_c0, p0⟩] S512x640.size (by rfl) y

set_option maxHeartbeats 600000 in
/-- The body's triple at a point before the last, which fills one slice of the scratch. -/
theorem kernelRun0_A (c : Dev nD) (i : grid0.Coords) (arg1 : Memref sig .tc .vmem S512x640 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x2560 .fp8e4m3) (harg6 : arg6.IsWhole) (arg7 : Memref sig .tc .vmem S512x1 .f32) (harg7 : arg7.IsWhole) (arg8 : Memref sig .tc .vmem S4x512x640 .f32) (harg8 : arg8.IsWhole) (hc0 : ¬cond0_0 i)
    (x0 : Vec F S512x640 .bf16) (x1 : Vec F S512x128 .bf16) (x2 : Vec F S512x128 .bf16) (x3 : Vec F S512x1 .i32) (x4 : Vec F S1x512 .i32) (s0 : Vec F S4x512x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare s0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare (over s0 (pieces i x0 x1 x2 x3 x4))) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, HS⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr; swap; · iexact HS
  ipureintro
  refine (read_writes_over _ _ _).trans ?_
  rw [harg8.read_unread]
  (try unfold kernelRun0_A.sl.r_5); (try unfold kernelRun0_A.sl.r_4); (try unfold kernelRun0_A.sl.r_3); (try unfold kernelRun0_A.sl.r_2); (try unfold kernelRun0_A.sl.r_1); (try unfold kernelRun0_A.sl.r)
  simp only [View.readAt_eq_ld, hf0, hf1, hf2, hf3, hf4]
  unfold pieces head0 head1 head2 head3 head4
  rfl

set_option maxHeartbeats 800000 in
/-- The body's triple at the last point, which fills the last slice and quantises all four. -/
theorem kernelRun0_B (c : Dev nD) (i : grid0.Coords) (arg1 : Memref sig .tc .vmem S512x640 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x2560 .fp8e4m3) (harg6 : arg6.IsWhole) (arg7 : Memref sig .tc .vmem S512x1 .f32) (harg7 : arg7.IsWhole) (arg8 : Memref sig .tc .vmem S4x512x640 .f32) (harg8 : arg8.IsWhole) (hc0 : cond0_0 i)
    (x0 : Vec F S512x640 .bf16) (x1 : Vec F S512x128 .bf16) (x2 : Vec F S512x128 .bf16) (x3 : Vec F S512x1 .i32) (x4 : Vec F S1x512 .i32) (s0 : Vec F S4x512x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare s0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 (over s0 (pieces i x0 x1 x2 x3 x4))) ∗ owns (c : Thread nD τ) arg7 fullShare (out0_6 (over s0 (pieces i x0 x1 x2 x3 x4))) ∗ owns (c : Thread nD τ) arg8 fullShare (over s0 (pieces i x0 x1 x2 x3 x4))) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, HS⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7
  sl_exec (disch := first | sl_exact hc0)
  sl_step
  iapply Hk
  have hp : kernelRun0_B.sl.HS_5 c i arg1 harg1 arg2 harg2 arg3 harg3 arg4 harg4 arg5 harg5 x0 x1 x2 x3 x4 = pieces i x0 x1 x2 x3 x4 := by
    unfold kernelRun0_B.sl.HS_5; (try unfold kernelRun0_B.sl.r_5); (try unfold kernelRun0_B.sl.r_4); (try unfold kernelRun0_B.sl.r_3); (try unfold kernelRun0_B.sl.r_2); (try unfold kernelRun0_B.sl.r_1); (try unfold kernelRun0_B.sl.r)
    simp only [View.readAt_eq_ld, hf0, hf1, hf2, hf3, hf4]
    unfold pieces head0 head1 head2 head3 head4
    rfl
  have e0 : kernelRun0_B.sl.v120 c i arg1 harg1 arg2 harg2 arg3 harg3 arg4 harg4 arg5 harg5 arg8 harg8 x0 x1 x2 x3 x4 s0 = View.ld (over s0 (pieces i x0 x1 x2 x3 x4)) r_g0 := by
    unfold kernelRun0_B.sl.v120; rw [View.readAt_eq_ld, read_writes_over, hf7, hp]
  have e1 : kernelRun0_B.sl.v125 c i arg1 harg1 arg2 harg2 arg3 harg3 arg4 harg4 arg5 harg5 arg8 harg8 x0 x1 x2 x3 x4 s0 = View.ld (over s0 (pieces i x0 x1 x2 x3 x4)) r_g1 := by
    unfold kernelRun0_B.sl.v125; rw [View.readAt_eq_ld, read_writes_over, hf7, hp]
  have e2 : kernelRun0_B.sl.v131 c i arg1 harg1 arg2 harg2 arg3 harg3 arg4 harg4 arg5 harg5 arg8 harg8 x0 x1 x2 x3 x4 s0 = View.ld (over s0 (pieces i x0 x1 x2 x3 x4)) r_g2 := by
    unfold kernelRun0_B.sl.v131; rw [View.readAt_eq_ld, read_writes_over, hf7, hp]
  have e3 : kernelRun0_B.sl.v137 c i arg1 harg1 arg2 harg2 arg3 harg3 arg4 harg4 arg5 harg5 arg8 harg8 x0 x1 x2 x3 x4 s0 = View.ld (over s0 (pieces i x0 x1 x2 x3 x4)) r_g3 := by
    unfold kernelRun0_B.sl.v137; rw [View.readAt_eq_ld, read_writes_over, hf7, hp]
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_eq_canon _ _ _ (cover_S512x2560 _ _ _ _)).trans ?_
    (try unfold kernelRun0_B.sl.r_10); (try unfold kernelRun0_B.sl.r_9); (try unfold kernelRun0_B.sl.r_8); (try unfold kernelRun0_B.sl.r_7); (try unfold kernelRun0_B.sl.r_6)
    rw [e0, e1, e2, e3]
    unfold out0_5 rc
    rfl
  isplitl [H6]
  · iexists _; isplitr; swap; · iexact H6
    ipureintro
    refine (View.read_writes_eq_canon _ _ _ (cover_S512x1 _)).trans ?_
    (try unfold kernelRun0_B.sl.r_10); (try unfold kernelRun0_B.sl.r_9); (try unfold kernelRun0_B.sl.r_8); (try unfold kernelRun0_B.sl.r_7); (try unfold kernelRun0_B.sl.r_6)
    rw [e0, e1, e2, e3]
    unfold out0_6 sc
    rfl
  iexists _; isplitr; swap; · iexact HS
  ipureintro
  refine (read_writes_over _ _ _).trans ?_
  rw [harg8.read_unread, hp]

/-- The five pieces of point `t`, read off the arrays. -/
def piecesAt (c : Dev nD) (t : Fin cfg0.N) : List (View.Piece (Elt F) S4x512x640 .f32) :=
  pieces (grid0.coords t) (X0_0 m c t) (iblk m c 1 t) (iblk m c 2 t) (iblk m c 3 t) (iblk m c 4 t)

/-- The scratch before position `n`, of the contents it had at the start. -/
def scrAt (c : Dev nD) (s : Vec F S4x512x640 .f32) : (n : ℕ) → n ≤ cfg0.N → Vec F S4x512x640 .f32
  | 0, _ => s
  | n + 1, hn => over (scrAt c s n (Nat.le_of_succ_le hn)) (piecesAt m c ⟨n, hn⟩)

/-- The scratch after the last point. -/
def scrEnd (c : Dev nD) (s : Vec F S4x512x640 .f32) : Vec F S4x512x640 .f32 := scrAt m c s cfg0.N (le_refl _)

/-- Some contents. -/
def junk : Vec F S4x512x640 .f32 := View.canon []

/-- Inside a newest piece whose rectangle has unit strides, its payload is read; -/
theorem over_in {off off' size : Fin 3 → ℕ} (inb : ∀ a, off a + size a ≤ S4x512x640.size a)
    (w : (Rect.unit (s := S4x512x640) off size inb).shape.Idx → Elt F .f32) (s : Vec F S4x512x640 .f32) (L : List (View.Piece (Elt F) S4x512x640 .f32))
    (y : S4x512x640.Idx) (x : (Rect.unit (s := S4x512x640) off size inb).shape.Idx) (heq : off = off') (hx : ∀ a, (y a).val = off' a + (x a).val) :
    over s ((⟨Rect.unit (s := S4x512x640) off size inb, w⟩ : View.Piece (Elt F) S4x512x640 .f32) :: L) y = w x := by
  subst heq
  have hy : (Rect.unit (s := S4x512x640) off size inb).emb x = y := funext fun a => Fin.ext (by
    show off a + 1 * (x a).val = (y a).val
    rw [hx a, Nat.one_mul])
  rw [← hy]
  exact Rect.overlay_emb _ _ _ x

/-- outside it, what the earlier pieces leave. -/
theorem over_out {off off' size : Fin 3 → ℕ} (inb : ∀ a, off a + size a ≤ S4x512x640.size a)
    (w : (Rect.unit (s := S4x512x640) off size inb).shape.Idx → Elt F .f32) (s : Vec F S4x512x640 .f32) (L : List (View.Piece (Elt F) S4x512x640 .f32))
    (y : S4x512x640.Idx) (heq : off = off') (a : Fin 3) (ha : (y a).val < off' a ∨ off' a + size a ≤ (y a).val) :
    over s ((⟨Rect.unit (s := S4x512x640) off size inb, w⟩ : View.Piece (Elt F) S4x512x640 .f32) :: L) y = over s L y := by
  subst heq
  refine Rect.overlay_of_not_mem _ _ _ ?_
  show y ∉ (Rect.unit (s := S4x512x640) off size inb).set
  rw [Rect.mem_set_unit]
  intro hall
  have := hall a
  omega

theorem off0_eq (t : Fin cfg0.N) : k0_off1 (grid0.coords t) = ![t.val, 0, 0] :=
  (by decide +kernel : ∀ t : Fin grid0.N, k0_off1 (grid0.coords t) = ![t.val, 0, 0]) t
theorem off1_eq (t : Fin cfg0.N) : k0_off2 (grid0.coords t) = ![t.val, 0, 128] :=
  (by decide +kernel : ∀ t : Fin grid0.N, k0_off2 (grid0.coords t) = ![t.val, 0, 128]) t
theorem off2_eq (t : Fin cfg0.N) : k0_off3 (grid0.coords t) = ![t.val, 0, 256] :=
  (by decide +kernel : ∀ t : Fin grid0.N, k0_off3 (grid0.coords t) = ![t.val, 0, 256]) t
theorem off3_eq (t : Fin cfg0.N) : k0_off4 (grid0.coords t) = ![t.val, 0, 384] :=
  (by decide +kernel : ∀ t : Fin grid0.N, k0_off4 (grid0.coords t) = ![t.val, 0, 384]) t
theorem off4_eq (t : Fin cfg0.N) : k0_off5 (grid0.coords t) = ![t.val, 0, 512] :=
  (by decide +kernel : ∀ t : Fin grid0.N, k0_off5 (grid0.coords t) = ![t.val, 0, 512]) t

/-- The five payloads of a point. -/
def headAt (c : Dev nD) (t : Fin cfg0.N) : Fin 5 → Vec F S1x512x128 .f32
  | 0 => head0 (X0_0 m c t) (iblk m c 1 t) (iblk m c 2 t) (iblk m c 3 t) (iblk m c 4 t)
  | 1 => head1 (X0_0 m c t) (iblk m c 1 t) (iblk m c 2 t) (iblk m c 3 t) (iblk m c 4 t)
  | 2 => head2 (X0_0 m c t) (iblk m c 1 t) (iblk m c 2 t) (iblk m c 3 t) (iblk m c 4 t)
  | 3 => head3 (X0_0 m c t) (iblk m c 1 t) (iblk m c 2 t) (iblk m c 3 t) (iblk m c 4 t)
  | 4 => head4 (X0_0 m c t) (iblk m c 1 t) (iblk m c 2 t) (iblk m c 3 t) (iblk m c 4 t)

/-- A point leaves the other slices of the scratch alone; -/
theorem over_piecesAt_ne (c : Dev nD) (t : Fin cfg0.N) (s : Vec F S4x512x640 .f32) (y : S4x512x640.Idx) (h : (y 0).val ≠ t.val) :
    over s (piecesAt m c t) y = s y := by
  unfold piecesAt pieces
  rw [over_out _ _ _ _ _ (off4_eq t) 0 (by show (y 0).val < t.val ∨ t.val + 1 ≤ (y 0).val; omega), over_out _ _ _ _ _ (off3_eq t) 0 (by show (y 0).val < t.val ∨ t.val + 1 ≤ (y 0).val; omega), over_out _ _ _ _ _ (off2_eq t) 0 (by show (y 0).val < t.val ∨ t.val + 1 ≤ (y 0).val; omega), over_out _ _ _ _ _ (off1_eq t) 0 (by show (y 0).val < t.val ∨ t.val + 1 ≤ (y 0).val; omega), over_out _ _ _ _ _ (off0_eq t) 0 (by show (y 0).val < t.val ∨ t.val + 1 ≤ (y 0).val; omega)]
  rfl

/-- in its own it leaves head 0 at that head's columns. -/
theorem over_piecesAt_0 (c : Dev nD) (t : Fin cfg0.N) (s : Vec F S4x512x640 .f32) (y : S4x512x640.Idx) (x : S1x512x128.Idx) (h0 : (y 0).val = t.val)
    (h1 : (y 1).val = (x 1).val) (h2 : (y 2).val = 0 + (x 2).val) : over s (piecesAt m c t) y = headAt m c t 0 x := by
  have hx : (x 2).val < 128 := (x 2).isLt
  have hx0 : (x 0).val < 1 := (x 0).isLt
  unfold piecesAt pieces
  rw [over_out _ _ _ _ _ (off4_eq t) 2 (by show (y 2).val < 512 ∨ 512 + 128 ≤ (y 2).val; omega), over_out _ _ _ _ _ (off3_eq t) 2 (by show (y 2).val < 384 ∨ 384 + 128 ≤ (y 2).val; omega), over_out _ _ _ _ _ (off2_eq t) 2 (by show (y 2).val < 256 ∨ 256 + 128 ≤ (y 2).val; omega), over_out _ _ _ _ _ (off1_eq t) 2 (by show (y 2).val < 128 ∨ 128 + 128 ≤ (y 2).val; omega)]
  exact over_in _ _ _ _ y x (off0_eq t) fun a => by
    fin_cases a
    · show (y 0).val = t.val + (x 0).val; omega
    · show (y 1).val = 0 + (x 1).val; omega
    · show (y 2).val = 0 + (x 2).val; omega

/-- in its own it leaves head 1 at that head's columns. -/
theorem over_piecesAt_1 (c : Dev nD) (t : Fin cfg0.N) (s : Vec F S4x512x640 .f32) (y : S4x512x640.Idx) (x : S1x512x128.Idx) (h0 : (y 0).val = t.val)
    (h1 : (y 1).val = (x 1).val) (h2 : (y 2).val = 128 + (x 2).val) : over s (piecesAt m c t) y = headAt m c t 1 x := by
  have hx : (x 2).val < 128 := (x 2).isLt
  have hx0 : (x 0).val < 1 := (x 0).isLt
  unfold piecesAt pieces
  rw [over_out _ _ _ _ _ (off4_eq t) 2 (by show (y 2).val < 512 ∨ 512 + 128 ≤ (y 2).val; omega), over_out _ _ _ _ _ (off3_eq t) 2 (by show (y 2).val < 384 ∨ 384 + 128 ≤ (y 2).val; omega), over_out _ _ _ _ _ (off2_eq t) 2 (by show (y 2).val < 256 ∨ 256 + 128 ≤ (y 2).val; omega)]
  exact over_in _ _ _ _ y x (off1_eq t) fun a => by
    fin_cases a
    · show (y 0).val = t.val + (x 0).val; omega
    · show (y 1).val = 0 + (x 1).val; omega
    · show (y 2).val = 128 + (x 2).val; omega

/-- in its own it leaves head 2 at that head's columns. -/
theorem over_piecesAt_2 (c : Dev nD) (t : Fin cfg0.N) (s : Vec F S4x512x640 .f32) (y : S4x512x640.Idx) (x : S1x512x128.Idx) (h0 : (y 0).val = t.val)
    (h1 : (y 1).val = (x 1).val) (h2 : (y 2).val = 256 + (x 2).val) : over s (piecesAt m c t) y = headAt m c t 2 x := by
  have hx : (x 2).val < 128 := (x 2).isLt
  have hx0 : (x 0).val < 1 := (x 0).isLt
  unfold piecesAt pieces
  rw [over_out _ _ _ _ _ (off4_eq t) 2 (by show (y 2).val < 512 ∨ 512 + 128 ≤ (y 2).val; omega), over_out _ _ _ _ _ (off3_eq t) 2 (by show (y 2).val < 384 ∨ 384 + 128 ≤ (y 2).val; omega)]
  exact over_in _ _ _ _ y x (off2_eq t) fun a => by
    fin_cases a
    · show (y 0).val = t.val + (x 0).val; omega
    · show (y 1).val = 0 + (x 1).val; omega
    · show (y 2).val = 256 + (x 2).val; omega

/-- in its own it leaves head 3 at that head's columns. -/
theorem over_piecesAt_3 (c : Dev nD) (t : Fin cfg0.N) (s : Vec F S4x512x640 .f32) (y : S4x512x640.Idx) (x : S1x512x128.Idx) (h0 : (y 0).val = t.val)
    (h1 : (y 1).val = (x 1).val) (h2 : (y 2).val = 384 + (x 2).val) : over s (piecesAt m c t) y = headAt m c t 3 x := by
  have hx : (x 2).val < 128 := (x 2).isLt
  have hx0 : (x 0).val < 1 := (x 0).isLt
  unfold piecesAt pieces
  rw [over_out _ _ _ _ _ (off4_eq t) 2 (by show (y 2).val < 512 ∨ 512 + 128 ≤ (y 2).val; omega)]
  exact over_in _ _ _ _ y x (off3_eq t) fun a => by
    fin_cases a
    · show (y 0).val = t.val + (x 0).val; omega
    · show (y 1).val = 0 + (x 1).val; omega
    · show (y 2).val = 384 + (x 2).val; omega

/-- in its own it leaves head 4 at that head's columns. -/
theorem over_piecesAt_4 (c : Dev nD) (t : Fin cfg0.N) (s : Vec F S4x512x640 .f32) (y : S4x512x640.Idx) (x : S1x512x128.Idx) (h0 : (y 0).val = t.val)
    (h1 : (y 1).val = (x 1).val) (h2 : (y 2).val = 512 + (x 2).val) : over s (piecesAt m c t) y = headAt m c t 4 x := by
  have hx : (x 2).val < 128 := (x 2).isLt
  have hx0 : (x 0).val < 1 := (x 0).isLt
  unfold piecesAt pieces
  exact over_in _ _ _ _ y x (off4_eq t) fun a => by
    fin_cases a
    · show (y 0).val = t.val + (x 0).val; omega
    · show (y 1).val = 0 + (x 1).val; omega
    · show (y 2).val = 512 + (x 2).val; omega

theorem over_piecesAt (c : Dev nD) (t : Fin cfg0.N) (k : Fin 5) (s : Vec F S4x512x640 .f32) (y : S4x512x640.Idx) (x : S1x512x128.Idx) (h0 : (y 0).val = t.val)
    (h1 : (y 1).val = (x 1).val) (h2 : (y 2).val = 128 * k.val + (x 2).val) : over s (piecesAt m c t) y = headAt m c t k x := by
  fin_cases k
  · exact over_piecesAt_0 m c t s y x h0 h1 h2
  · exact over_piecesAt_1 m c t s y x h0 h1 h2
  · exact over_piecesAt_2 m c t s y x h0 h1 h2
  · exact over_piecesAt_3 m c t s y x h0 h1 h2
  · exact over_piecesAt_4 m c t s y x h0 h1 h2

/-- After point `t` the scratch holds head `k` of that point at its place, and keeps it. -/
theorem scrAt_at (c : Dev nD) (s : Vec F S4x512x640 .f32) (t : Fin cfg0.N) (k : Fin 5) (y : S4x512x640.Idx) (x : S1x512x128.Idx) (h0 : (y 0).val = t.val)
    (h1 : (y 1).val = (x 1).val) (h2 : (y 2).val = 128 * k.val + (x 2).val) :
    ∀ (n : ℕ) (hn : n ≤ cfg0.N), t.val < n → scrAt m c s n hn y = headAt m c t k x := by
  intro n
  induction n with
  | zero => intro hn h; exact absurd h (Nat.not_lt_zero _)
  | succ n ih =>
    intro hn h
    unfold scrAt
    by_cases e : t.val = n
    · obtain rfl : t = ⟨n, hn⟩ := Fin.ext e
      exact over_piecesAt m c _ k _ y x h0 h1 h2
    · rw [over_piecesAt_ne m c ⟨n, hn⟩ _ y (by show (y 0).val ≠ n; omega)]
      exact ih _ (by omega)

/-- The scratch at the end, entry by entry. -/
theorem scrEnd_at (c : Dev nD) (s : Vec F S4x512x640 .f32) (t : Fin cfg0.N) (k : Fin 5) (y : S4x512x640.Idx) (x : S1x512x128.Idx) (h0 : (y 0).val = t.val)
    (h1 : (y 1).val = (x 1).val) (h2 : (y 2).val = 128 * k.val + (x 2).val) : scrEnd m c s y = headAt m c t k x :=
  scrAt_at m c s t k y x h0 h1 h2 _ _ t.isLt

/-- So it does not depend on what it held at the start. -/
theorem scrEnd_eq (c : Dev nD) (s s' : Vec F S4x512x640 .f32) : scrEnd m c s = scrEnd m c s' := by
  funext y
  have b0 : (y 0).val < 4 := (y 0).isLt
  have b1 : (y 1).val < 512 := (y 1).isLt
  have b2 : (y 2).val < 640 := (y 2).isLt
  have hN : (y 0).val < cfg0.N := Nat.lt_of_lt_of_eq b0 N_0.symm
  have e := fun s => scrEnd_at m c s ⟨(y 0).val, hN⟩ ⟨(y 2).val / 128, by omega⟩ y (ValueIdx.ix3 (⟨0, by decide⟩ : Fin 1) (⟨(y 1).val, b1⟩ : Fin 512) (⟨(y 2).val % 128, Nat.mod_lt _ (by decide)⟩ : Fin 128)) rfl rfl
    (by show (y 2).val = 128 * ((y 2).val / 128) + (y 2).val % 128; omega)
  rw [e, e]

/-- The region invariant before position `n`: the scratch as the points before it left it, and the generator register. -/
def PhiS (c : Dev nD) (n : ℕ) (hn : n ≤ cfg0.N) : sProp 𝕄 :=
  iprop((∃ s, owns (c : Thread nD τ) scM0_0 fullShare (scrAt m c s n hn)) ∗ (∃ r, prngReg c r))

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The proof data of the pipeline: every input's buffer at its block, the outputs' at the quantised scratch. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => out0_5 (scrEnd m c junk)
    | ⟨6, _⟩ => out0_6 (scrEnd m c junk)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (scrEnd m c junk) := by dsimp only [dats]
theorem after0_6 (c : Dev nD) (t : Fin cfg0.N) : (dats m 0 c).after 6 t = out0_6 (scrEnd m c junk) := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem lv0_0 (c : Dev nD) (t : Fin cfg0.N) : (dats m 0 c).leavesExact 0 t = owns (c : Thread nD τ) (ms0_0 t) fullShare ((dats m 0 c).after 0 t) := by
  unfold Dat.leavesExact; rw [live0_0 t ]
theorem lv0_1 (c : Dev nD) (t : Fin cfg0.N) : (dats m 0 c).leavesExact 1 t = owns (c : Thread nD τ) (ms0_1 t) fullShare ((dats m 0 c).after 1 t) := by
  unfold Dat.leavesExact; rw [live0_1 t ]
theorem lv0_2 (c : Dev nD) (t : Fin cfg0.N) : (dats m 0 c).leavesExact 2 t = owns (c : Thread nD τ) (ms0_2 t) fullShare ((dats m 0 c).after 2 t) := by
  unfold Dat.leavesExact; rw [live0_2 t ]
theorem lv0_3 (c : Dev nD) (t : Fin cfg0.N) : (dats m 0 c).leavesExact 3 t = owns (c : Thread nD τ) (ms0_3 t) fullShare ((dats m 0 c).after 3 t) := by
  unfold Dat.leavesExact; rw [live0_3 t ]
theorem lv0_4 (c : Dev nD) (t : Fin cfg0.N) : (dats m 0 c).leavesExact 4 t = owns (c : Thread nD τ) (ms0_4 t) fullShare ((dats m 0 c).after 4 t) := by
  unfold Dat.leavesExact; rw [live0_4 t ]
theorem lv0_5 (c : Dev nD) (t : Fin cfg0.N) (h : t.val = 3) : (dats m 0 c).leavesExact 5 t = owns (c : Thread nD τ) (ms0_5 t) fullShare ((dats m 0 c).after 5 t) := by
  unfold Dat.leavesExact; rw [live0_5 t ((hcond0_0 t).mpr h)]
theorem lv0_6 (c : Dev nD) (t : Fin cfg0.N) (h : t.val = 3) : (dats m 0 c).leavesExact 6 t = owns (c : Thread nD τ) (ms0_6 t) fullShare ((dats m 0 c).after 6 t) := by
  unfold Dat.leavesExact; rw [live0_6 t ((hcond0_0 t).mpr h)]
/-- The buffer of a point that does not store it is handed back as it was found. -/
theorem idlv0_5 (c : Dev nD) (t : Fin cfg0.N) (h : t.val ≠ 3) : (dats m 0 c).leavesExact 5 t = iprop(∃ d, owns (c : Thread nD τ) (ms0_5 t) fullShare ((dats m 0 c).before 5 t d)) := by
  have ht : t.val < 4 := Nat.lt_of_lt_of_eq t.isLt N_0
  have hf : (cfg0.win 5).flush t = false := by
    rw [Bool.eq_false_iff]; intro e; have := (flush0_5 t).mp e; omega
  unfold Dat.leavesExact
  rw [idle0_5 t (fun hc => h ((hcond0_0 t).mp hc)), hf]
/-- The buffer of a point that does not store it is handed back as it was found. -/
theorem idlv0_6 (c : Dev nD) (t : Fin cfg0.N) (h : t.val ≠ 3) : (dats m 0 c).leavesExact 6 t = iprop(∃ d, owns (c : Thread nD τ) (ms0_6 t) fullShare ((dats m 0 c).before 6 t d)) := by
  have ht : t.val < 4 := Nat.lt_of_lt_of_eq t.isLt N_0
  have hf : (cfg0.win 6).flush t = false := by
    rw [Bool.eq_false_iff]; intro e; have := (flush0_6 t).mp e; omega
  unfold Dat.leavesExact
  rw [idle0_6 t (fun hc => h ((hcond0_0 t).mp hc)), hf]

theorem Phi_castSucc (c : Dev nD) (t : Fin cfg0.N) : (dats m 0 c).Φ t.castSucc = PhiS m c t.val (Nat.le_of_lt t.isLt) := rfl
theorem Phi_succ (c : Dev nD) (t : Fin cfg0.N) : (dats m 0 c).Φ t.succ = PhiS m c (t.val + 1) t.isLt := rfl

/-- The scratch after one more point. -/
theorem scrAt_succ (c : Dev nD) (s : Vec F S4x512x640 .f32) (t : Fin cfg0.N) :
    scrAt m c s (t.val + 1) t.isLt = over (scrAt m c s t.val (Nat.le_of_lt t.isLt)) (pieces (grid0.coords t) (X0_0 m c t) (iblk m c 1 t) (iblk m c 2 t) (iblk m c 3 t) (iblk m c 4 t)) := rfl

/-- After the last point it is the one the outputs are stated with. -/
theorem scrAt_last (c : Dev nD) (s : Vec F S4x512x640 .f32) (t : Fin cfg0.N) (h : t.val = 3) :
    over (scrAt m c s t.val (Nat.le_of_lt t.isLt)) (pieces (grid0.coords t) (X0_0 m c t) (iblk m c 1 t) (iblk m c 2 t) (iblk m c 3 t) (iblk m c 4 t)) = scrEnd m c junk := by
  rw [scrEnd_eq m c junk s, ← scrAt_succ]
  obtain rfl : t = ⟨3, Nat.lt_of_lt_of_eq (by decide) N_0.symm⟩ := Fin.ext h
  rfl

set_option maxHeartbeats 1600000 in
/-- The body at any point, by whether it is the last. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Phi_castSucc, Phi_succ, show (dats m 0 c).owesAt () t.succ = (dats m 0 c).owesAt () t.castSucc from rfl,
    lv0_0, lv0_1, lv0_2, lv0_3, lv0_4, after0_0, after0_1, after0_2, after0_3, after0_4]
  unfold PhiS
  by_cases h0 : t.val = 3
  · rw [lv0_5 m c t h0, lv0_6 m c t h0, after0_5, after0_6]
    iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun0_B c (grid0.coords t) _ _ _ _ _ _ _ _ _ _ _ _ _ _ _ _ ((hcond0_0 t).mpr h0) (X0_0 m c t) (iblk m c 1 t) (iblk m c 2 t) (iblk m c 3 t) (iblk m c 4 t) (scrAt m c s t.val (Nat.le_of_lt t.isLt)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    rw [scrAt_last m c s t h0]
    iintro ⟨H0, H1, H2, H3, H4, H5, H6, HS⟩
    isplitl [HS Hg]
    · isplitl [HS]
      · iexists s; rw [scrAt_succ, scrAt_last m c s t h0]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [idlv0_5 m c t h0, idlv0_6 m c t h0]
    iintro ⟨⟨⟨%s, HS⟩, Hg⟩, Ho, ⟨%d0, H0⟩, ⟨%d1, H1⟩, ⟨%d2, H2⟩, ⟨%d3, H3⟩, ⟨%d4, H4⟩, H5, H6⟩
    iapply (kernelRun0_A c (grid0.coords t) _ _ _ _ _ _ _ _ _ _ _ _ _ _ _ _ (fun h => h0 ((hcond0_0 t).mp h)) (X0_0 m c t) (iblk m c 1 t) (iblk m c 2 t) (iblk m c 3 t) (iblk m c 4 t) (scrAt m c s t.val (Nat.le_of_lt t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists s; rw [scrAt_succ]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  exact Idealize.SL.BI.Entails.refl _

/-- After the last point the scratch's contents are forgotten. -/
theorem hout (c : Dev nD) : (dats m 0 c).Φ (Fin.last cfg0.N) ⊢ Pipeline.ΦA spec0 c := by
  rw [show (dats m 0 c).Φ (Fin.last cfg0.N) = PhiS m c cfg0.N (le_refl _) from rfl, PhiA0_eq]
  unfold PhiS
  iintro ⟨⟨%s, HS⟩, Hg⟩
  isplitl [HS]
  · iexists _; iexact HS
  iexact Hg

set_option backward.isDefEq.respectTransparency.types false in
set_option maxHeartbeats 800000 in
/-- Every execution ends with the arrays at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Attn.Hand

end
-- ==== Proof.AttnIdealFrame.lean ====
/- The frame of the attention call. -/
module

public import proofs.«01_k».proof.Proof.Gen.AttnIdeal.Frame
public import proofs.«01_k».proof.Proof.Gen.AttnIdeal.Skeleton
public import Idealize.ShloMosaic.Lib.Pipeline.TableIdle
public import Idealize.ShloMosaic.Lib.Claim
public import Idealize.ShloMosaic.Lib.ValueIdxCore

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body quantises. -/
abbrev cond0_0 (i : grid0.Coords) : Prop := k0_cond1 i = 1#1

/-- It holds at the last point only. -/
theorem hcond0_0 : ∀ t : Fin cfg0.N, cond0_0 (grid0.coords t) ↔ t.val = 3 :=
  (fun t => by
    have ht : t.val < 4 := Nat.lt_of_lt_of_eq t.isLt N_0
    have e0 : (grid0.coords t 0).val = t.val / 1 % 4 := Pipeline.Grid.coords_val t 0 (by decide) rfl
    have e1 : t.val = 3 ↔ t.val % 4 = 3 := by omega
    rw [e1]
    simp only [cond0_0, k0_cond1, e0]
    word_cmp
   : ∀ t : Fin grid0.N, cond0_0 (grid0.coords t) ↔ t.val = 3)

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cond0_0 (grid0.coords t) → cfg0.idle 5 (grid0.coords t) = false := fun t h => by
  show (!(k0_cond1 (grid0.coords t) == 1#1)) = false
  rw [show k0_cond1 (grid0.coords t) = 1#1 from h]; rfl
theorem idle0_5 : ∀ t : Fin cfg0.N, ¬cond0_0 (grid0.coords t) → cfg0.idle 5 (grid0.coords t) = true := fun t h => by
  show (!(k0_cond1 (grid0.coords t) == 1#1)) = true
  rw [Bool.not_eq_true', beq_eq_false_iff_ne]; exact h
theorem live0_6 : ∀ t : Fin cfg0.N, cond0_0 (grid0.coords t) → cfg0.idle 6 (grid0.coords t) = false := fun t h => by
  show (!(k0_cond1 (grid0.coords t) == 1#1)) = false
  rw [show k0_cond1 (grid0.coords t) = 1#1 from h]; rfl
theorem idle0_6 : ∀ t : Fin cfg0.N, ¬cond0_0 (grid0.coords t) → cfg0.idle 6 (grid0.coords t) = true := fun t h => by
  show (!(k0_cond1 (grid0.coords t) == 1#1)) = true
  rw [Bool.not_eq_true', beq_eq_false_iff_ne]; exact h
abbrev ms0_0 (t : Fin cfg0.N) : Memref sig .tc .vmem S512x640 .bf16 := win0_0.stage (cfg0.slots t 0)
abbrev ms0_1 (t : Fin cfg0.N) : Memref sig .tc .vmem S512x128 .bf16 := win0_1.stage (cfg0.slots t 1)
abbrev ms0_2 (t : Fin cfg0.N) : Memref sig .tc .vmem S512x128 .bf16 := win0_2.stage (cfg0.slots t 2)
abbrev ms0_3 (t : Fin cfg0.N) : Memref sig .tc .vmem S512x1 .i32 := win0_3.stage (cfg0.slots t 3)
abbrev ms0_4 (t : Fin cfg0.N) : Memref sig .tc .vmem S1x512 .i32 := win0_4.stage (cfg0.slots t 4)
abbrev ms0_5 (t : Fin cfg0.N) : Memref sig .tc .vmem S512x2560 .fp8e4m3 := win0_5.stage (cfg0.slots t 5)
abbrev ms0_6 (t : Fin cfg0.N) : Memref sig .tc .vmem S512x1 .f32 := win0_6.stage (cfg0.slots t 6)
/-- The scratch. -/
abbrev scM0_0 : Memref sig .tc .vmem S4x512x640 .f32 := Memref.whole cc0_scratch0
/-- The whole of a buffer of this shape. -/
abbrev r_S512x128 : Rect S512x128 := Rect.unit (s := S512x128) ![0, 0] S512x128.size inb_S512x128_S512x128_0_0
/-- The whole of a buffer of this shape. -/
abbrev r_S512x1 : Rect S512x1 := Rect.unit (s := S512x1) ![0, 0] S512x1.size inb_S512x1_S512x1_0_0
/-- The whole of a buffer of this shape. -/
abbrev r_S1x512 : Rect S1x512 := Rect.unit (s := S1x512) ![0, 0] S1x512.size inb_S1x512_S1x512_0_0
/-- Head 0's columns of a block of queries. -/
abbrev r_q0 : Rect S512x640 := Rect.unit (s := S512x640) ![0, 0] S512x128.size inb_S512x640_S512x128_0_0
/-- Head 1's columns of a block of queries. -/
abbrev r_q1 : Rect S512x640 := Rect.unit (s := S512x640) ![0, 128] S512x128.size inb_S512x640_S512x128_0_128
/-- Head 2's columns of a block of queries. -/
abbrev r_q2 : Rect S512x640 := Rect.unit (s := S512x640) ![0, 256] S512x128.size inb_S512x640_S512x128_0_256
/-- Head 3's columns of a block of queries. -/
abbrev r_q3 : Rect S512x640 := Rect.unit (s := S512x640) ![0, 384] S512x128.size inb_S512x640_S512x128_0_384
/-- Head 4's columns of a block of queries. -/
abbrev r_q4 : Rect S512x640 := Rect.unit (s := S512x640) ![0, 512] S512x128.size inb_S512x640_S512x128_0_512
/-- Head 0's place in the scratch at a point. -/
abbrev r_s0 (i : grid0.Coords) : Rect S4x512x640 := Rect.unit (s := S4x512x640) (k0_off1 i) S1x512x128.size (k0_off1_inb i)
/-- Head 1's place in the scratch at a point. -/
abbrev r_s1 (i : grid0.Coords) : Rect S4x512x640 := Rect.unit (s := S4x512x640) (k0_off2 i) S1x512x128.size (k0_off2_inb i)
/-- Head 2's place in the scratch at a point. -/
abbrev r_s2 (i : grid0.Coords) : Rect S4x512x640 := Rect.unit (s := S4x512x640) (k0_off3 i) S1x512x128.size (k0_off3_inb i)
/-- Head 3's place in the scratch at a point. -/
abbrev r_s3 (i : grid0.Coords) : Rect S4x512x640 := Rect.unit (s := S4x512x640) (k0_off4 i) S1x512x128.size (k0_off4_inb i)
/-- Head 4's place in the scratch at a point. -/
abbrev r_s4 (i : grid0.Coords) : Rect S4x512x640 := Rect.unit (s := S4x512x640) (k0_off5 i) S1x512x128.size (k0_off5_inb i)
/-- Slice 0 of the scratch. -/
abbrev r_g0 : Rect S4x512x640 := Rect.unit (s := S4x512x640) ![0, 0, 0] S1x512x640.size inb_S4x512x640_S1x512x640_0_0_0
/-- Slice 1 of the scratch. -/
abbrev r_g1 : Rect S4x512x640 := Rect.unit (s := S4x512x640) ![1, 0, 0] S1x512x640.size inb_S4x512x640_S1x512x640_1_0_0
/-- Slice 2 of the scratch. -/
abbrev r_g2 : Rect S4x512x640 := Rect.unit (s := S4x512x640) ![2, 0, 0] S1x512x640.size inb_S4x512x640_S1x512x640_2_0_0
/-- Slice 3 of the scratch. -/
abbrev r_g3 : Rect S4x512x640 := Rect.unit (s := S4x512x640) ![3, 0, 0] S1x512x640.size inb_S4x512x640_S1x512x640_3_0_0
/-- Slice 0's columns of the codes. -/
abbrev r_c0 : Rect S512x2560 := Rect.unit (s := S512x2560) ![0, 0] S512x640.size inb_S512x2560_S512x640_0_0
/-- Slice 1's columns of the codes. -/
abbrev r_c1 : Rect S512x2560 := Rect.unit (s := S512x2560) ![0, 640] S512x640.size inb_S512x2560_S512x640_0_640
/-- Slice 2's columns of the codes. -/
abbrev r_c2 : Rect S512x2560 := Rect.unit (s := S512x2560) ![0, 1280] S512x640.size inb_S512x2560_S512x640_0_1280
/-- Slice 3's columns of the codes. -/
abbrev r_c3 : Rect S512x2560 := Rect.unit (s := S512x2560) ![0, 1920] S512x640.size inb_S512x2560_S512x640_0_1920

/-- What head 0 of a point stores. -/
def head0 (x0 : Vec F S512x640 .bf16) (x1 : Vec F S512x128 .bf16) (x2 : Vec F S512x128 .bf16) (x3 : Vec F S512x1 .i32) (x4 : Vec F S1x512 .i32) : Vec F S1x512x128 .f32 :=
  k0_pay13 (View.ld x3 r_S512x1) (View.ld x4 r_S1x512) (View.ld x1 r_S512x128) (View.ld x2 r_S512x128) (View.ld x0 r_q0)
/-- What head 1 of a point stores. -/
def head1 (x0 : Vec F S512x640 .bf16) (x1 : Vec F S512x128 .bf16) (x2 : Vec F S512x128 .bf16) (x3 : Vec F S512x1 .i32) (x4 : Vec F S1x512 .i32) : Vec F S1x512x128 .f32 :=
  k0_pay16 (k0_pay12 (View.ld x3 r_S512x1) (View.ld x4 r_S1x512)) (View.ld x2 r_S512x128) (k0_pay14 (View.ld x1 r_S512x128) (View.ld x0 r_q1)) (k0_pay15 (F := F))
/-- What head 2 of a point stores. -/
def head2 (x0 : Vec F S512x640 .bf16) (x1 : Vec F S512x128 .bf16) (x2 : Vec F S512x128 .bf16) (x3 : Vec F S512x1 .i32) (x4 : Vec F S1x512 .i32) : Vec F S1x512x128 .f32 :=
  k0_pay17 (k0_pay12 (View.ld x3 r_S512x1) (View.ld x4 r_S1x512)) (View.ld x1 r_S512x128) (View.ld x2 r_S512x128) (View.ld x0 r_q2)
/-- What head 3 of a point stores. -/
def head3 (x0 : Vec F S512x640 .bf16) (x1 : Vec F S512x128 .bf16) (x2 : Vec F S512x128 .bf16) (x3 : Vec F S512x1 .i32) (x4 : Vec F S1x512 .i32) : Vec F S1x512x128 .f32 :=
  k0_pay18 (k0_pay12 (View.ld x3 r_S512x1) (View.ld x4 r_S1x512)) (View.ld x1 r_S512x128) (View.ld x2 r_S512x128) (View.ld x0 r_q3)
/-- What head 4 of a point stores. -/
def head4 (x0 : Vec F S512x640 .bf16) (x1 : Vec F S512x128 .bf16) (x2 : Vec F S512x128 .bf16) (x3 : Vec F S512x1 .i32) (x4 : Vec F S1x512 .i32) : Vec F S1x512x128 .f32 :=
  k0_pay19 (k0_pay12 (View.ld x3 r_S512x1) (View.ld x4 r_S1x512)) (View.ld x1 r_S512x128) (View.ld x2 r_S512x128) (View.ld x0 r_q4)

/-- The pieces a point stores in the scratch, the last first. -/
def pieces (i : grid0.Coords) (x0 : Vec F S512x640 .bf16) (x1 : Vec F S512x128 .bf16) (x2 : Vec F S512x128 .bf16) (x3 : Vec F S512x1 .i32) (x4 : Vec F S1x512 .i32) : List (View.Piece (Elt F) S4x512x640 .f32) :=
  [⟨r_s4 i, head4 x0 x1 x2 x3 x4⟩, ⟨r_s3 i, head3 x0 x1 x2 x3 x4⟩, ⟨r_s2 i, head2 x0 x1 x2 x3 x4⟩, ⟨r_s1 i, head1 x0 x1 x2 x3 x4⟩, ⟨r_s0 i, head0 x0 x1 x2 x3 x4⟩]

/-- Contents with pieces stored over them, the last first. -/
def over (s : Vec F S4x512x640 .f32) : List (View.Piece (Elt F) S4x512x640 .f32) → Vec F S4x512x640 .f32
  | [] => s
  | p :: L => p.1.overlay (over s L) p.2

/-- What a view reads after stores is what it read before with the pieces over it. -/
theorem read_writes_over {sg : RefSig} {κ : Kind} {sp : Space} (v : View sg κ sp S4x512x640 .f32) (f : v.ty.Contents (Elt F)) :
    ∀ L : List (View.Piece (Elt F) S4x512x640 .f32), v.read (Elt F) (v.writes (Elt F) f L) = over (v.read (Elt F) f) L
  | [] => rfl
  | p :: L => by
    funext y
    show _ = p.1.overlay (over (v.read (Elt F) f) L) p.2 y
    by_cases hy : y ∈ p.1.set
    · obtain ⟨r, w⟩ := p
      obtain ⟨x, rfl⟩ : ∃ x, r.emb x = y := r.exists_idx_of_mem hy
      rw [View.read_writes_cons_emb, Rect.overlay_emb]
    · have hy' : y ∉ Finset.univ.map p.1.emb := by rwa [Rect.map_emb_univ]
      rw [View.writes_cons, View.read_slice_write_of_not_mem p.1 _ _ _ hy', Rect.overlay_of_not_mem _ _ _ hy, read_writes_over v f L]

/-- The scale the last point stores, of the scratch's contents. -/
def sc (s : Vec F S4x512x640 .f32) : Vec F S512x1 .f32 :=
  k0_pay6 (k0_pay2 (View.ld s r_g0) (View.ld s r_g1) (View.ld s r_g2) (View.ld s r_g3)) (k0_pay3 (View.ld s r_g0) (View.ld s r_g1) (View.ld s r_g2) (View.ld s r_g3)) (k0_pay4 (View.ld s r_g0) (View.ld s r_g1) (View.ld s r_g2) (View.ld s r_g3))
/-- Its reciprocal. -/
def rc (s : Vec F S4x512x640 .f32) : Vec F S512x1 .f32 :=
  k0_pay7 (k0_pay2 (View.ld s r_g0) (View.ld s r_g1) (View.ld s r_g2) (View.ld s r_g3)) (k0_pay3 (View.ld s r_g0) (View.ld s r_g1) (View.ld s r_g2) (View.ld s r_g3)) (k0_pay4 (View.ld s r_g0) (View.ld s r_g1) (View.ld s r_g2) (View.ld s r_g3))

/-- What is left in the scale's buffer. -/
def out0_6 (s : Vec F S4x512x640 .f32) : Vec F S512x1 .f32 := View.canon [⟨r_S512x1, sc s⟩]

/-- What is left in the codes' buffer. -/
def out0_5 (s : Vec F S4x512x640 .f32) : Vec F S512x2560 .fp8e4m3 :=
  View.canon [⟨r_c3, k0_pay1 (k0_pay11 (rc s) (View.ld s r_g3))⟩, ⟨r_c2, k0_pay10 (rc s) (View.ld s r_g2)⟩, ⟨r_c1, k0_pay9 (rc s) (View.ld s r_g1)⟩, ⟨r_c0, k0_pay8 (rc s) (View.ld s r_g0)⟩]

theorem cover_S512x1 (p0 : Vec F S512x1 .f32) (y : S512x1.Idx) :
    ∃ pc ∈ ([⟨r_S512x1, p0⟩] : List (View.Piece (Elt F) S512x1 .f32)), y ∈ pc.1.set :=
  View.cover_of_tiled [⟨r_S512x1, p0⟩] S512x1.size (by rfl) y

theorem cover_S512x2560 (p0 p1 p2 p3 : Vec F S512x640 .fp8e4m3) (y : S512x2560.Idx) :
    ∃ pc ∈ ([⟨r_c3, p3⟩, ⟨r_c2, p2⟩, ⟨r_c1, p1⟩, ⟨r_c0, p0⟩] : List (View.Piece (Elt F) S512x2560 .fp8e4m3)), y ∈ pc.1.set :=
  View.cover_of_tiled [⟨r_c3, p3⟩, ⟨r_c2, p2⟩, ⟨r_c1, p1⟩, ⟨r_c0, p0⟩] S512x640.size (by rfl) y

set_option maxHeartbeats 600000 in
/-- The body's triple at a point before the last, which fills one slice of the scratch. -/
theorem kernelRun0_A (c : Dev nD) (i : grid0.Coords) (arg1 : Memref sig .tc .vmem S512x640 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x2560 .fp8e4m3) (harg6 : arg6.IsWhole) (arg7 : Memref sig .tc .vmem S512x1 .f32) (harg7 : arg7.IsWhole) (arg8 : Memref sig .tc .vmem S4x512x640 .f32) (harg8 : arg8.IsWhole) (hc0 : ¬cond0_0 i)
    (x0 : Vec F S512x640 .bf16) (x1 : Vec F S512x128 .bf16) (x2 : Vec F S512x128 .bf16) (x3 : Vec F S512x1 .i32) (x4 : Vec F S1x512 .i32) (s0 : Vec F S4x512x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare s0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare (over s0 (pieces i x0 x1 x2 x3 x4))) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, HS⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr; swap; · iexact HS
  ipureintro
  refine (read_writes_over _ _ _).trans ?_
  rw [harg8.read_unread]
  (try unfold kernelRun0_A.sl.r_5); (try unfold kernelRun0_A.sl.r_4); (try unfold kernelRun0_A.sl.r_3); (try unfold kernelRun0_A.sl.r_2); (try unfold kernelRun0_A.sl.r_1); (try unfold kernelRun0_A.sl.r)
  simp only [View.readAt_eq_ld, hf0, hf1, hf2, hf3, hf4]
  unfold pieces head0 head1 head2 head3 head4
  rfl

set_option maxHeartbeats 800000 in
/-- The body's triple at the last point, which fills the last slice and quantises all four. -/
theorem kernelRun0_B (c : Dev nD) (i : grid0.Coords) (arg1 : Memref sig .tc .vmem S512x640 .bf16) (harg1 : arg1.IsWhole) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x2560 .fp8e4m3) (harg6 : arg6.IsWhole) (arg7 : Memref sig .tc .vmem S512x1 .f32) (harg7 : arg7.IsWhole) (arg8 : Memref sig .tc .vmem S4x512x640 .f32) (harg8 : arg8.IsWhole) (hc0 : cond0_0 i)
    (x0 : Vec F S512x640 .bf16) (x1 : Vec F S512x128 .bf16) (x2 : Vec F S512x128 .bf16) (x3 : Vec F S512x1 .i32) (x4 : Vec F S1x512 .i32) (s0 : Vec F S4x512x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare s0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 (over s0 (pieces i x0 x1 x2 x3 x4))) ∗ owns (c : Thread nD τ) arg7 fullShare (out0_6 (over s0 (pieces i x0 x1 x2 x3 x4))) ∗ owns (c : Thread nD τ) arg8 fullShare (over s0 (pieces i x0 x1 x2 x3 x4))) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, HS⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7
  sl_exec (disch := first | sl_exact hc0)
  sl_step
  iapply Hk
  have hp : kernelRun0_B.sl.HS_5 c i arg1 harg1 arg2 harg2 arg3 harg3 arg4 harg4 arg5 harg5 x0 x1 x2 x3 x4 = pieces i x0 x1 x2 x3 x4 := by
    unfold kernelRun0_B.sl.HS_5; (try unfold kernelRun0_B.sl.r_5); (try unfold kernelRun0_B.sl.r_4); (try unfold kernelRun0_B.sl.r_3); (try unfold kernelRun0_B.sl.r_2); (try unfold kernelRun0_B.sl.r_1); (try unfold kernelRun0_B.sl.r)
    simp only [View.readAt_eq_ld, hf0, hf1, hf2, hf3, hf4]
    unfold pieces head0 head1 head2 head3 head4
    rfl
  have e0 : kernelRun0_B.sl.v120 c i arg1 harg1 arg2 harg2 arg3 harg3 arg4 harg4 arg5 harg5 arg8 harg8 x0 x1 x2 x3 x4 s0 = View.ld (over s0 (pieces i x0 x1 x2 x3 x4)) r_g0 := by
    unfold kernelRun0_B.sl.v120; rw [View.readAt_eq_ld, read_writes_over, hf7, hp]
  have e1 : kernelRun0_B.sl.v125 c i arg1 harg1 arg2 harg2 arg3 harg3 arg4 harg4 arg5 harg5 arg8 harg8 x0 x1 x2 x3 x4 s0 = View.ld (over s0 (pieces i x0 x1 x2 x3 x4)) r_g1 := by
    unfold kernelRun0_B.sl.v125; rw [View.readAt_eq_ld, read_writes_over, hf7, hp]
  have e2 : kernelRun0_B.sl.v131 c i arg1 harg1 arg2 harg2 arg3 harg3 arg4 harg4 arg5 harg5 arg8 harg8 x0 x1 x2 x3 x4 s0 = View.ld (over s0 (pieces i x0 x1 x2 x3 x4)) r_g2 := by
    unfold kernelRun0_B.sl.v131; rw [View.readAt_eq_ld, read_writes_over, hf7, hp]
  have e3 : kernelRun0_B.sl.v137 c i arg1 harg1 arg2 harg2 arg3 harg3 arg4 harg4 arg5 harg5 arg8 harg8 x0 x1 x2 x3 x4 s0 = View.ld (over s0 (pieces i x0 x1 x2 x3 x4)) r_g3 := by
    unfold kernelRun0_B.sl.v137; rw [View.readAt_eq_ld, read_writes_over, hf7, hp]
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_eq_canon _ _ _ (cover_S512x2560 _ _ _ _)).trans ?_
    (try unfold kernelRun0_B.sl.r_10); (try unfold kernelRun0_B.sl.r_9); (try unfold kernelRun0_B.sl.r_8); (try unfold kernelRun0_B.sl.r_7); (try unfold kernelRun0_B.sl.r_6)
    rw [e0, e1, e2, e3]
    unfold out0_5 rc
    rfl
  isplitl [H6]
  · iexists _; isplitr; swap; · iexact H6
    ipureintro
    refine (View.read_writes_eq_canon _ _ _ (cover_S512x1 _)).trans ?_
    (try unfold kernelRun0_B.sl.r_10); (try unfold kernelRun0_B.sl.r_9); (try unfold kernelRun0_B.sl.r_8); (try unfold kernelRun0_B.sl.r_7); (try unfold kernelRun0_B.sl.r_6)
    rw [e0, e1, e2, e3]
    unfold out0_6 sc
    rfl
  iexists _; isplitr; swap; · iexact HS
  ipureintro
  refine (read_writes_over _ _ _).trans ?_
  rw [harg8.read_unread, hp]

/-- The five pieces of point `t`, read off the arrays. -/
def piecesAt (c : Dev nD) (t : Fin cfg0.N) : List (View.Piece (Elt F) S4x512x640 .f32) :=
  pieces (grid0.coords t) (X0_0 m c t) (iblk m c 1 t) (iblk m c 2 t) (iblk m c 3 t) (iblk m c 4 t)

/-- The scratch before position `n`, of the contents it had at the start. -/
def scrAt (c : Dev nD) (s : Vec F S4x512x640 .f32) : (n : ℕ) → n ≤ cfg0.N → Vec F S4x512x640 .f32
  | 0, _ => s
  | n + 1, hn => over (scrAt c s n (Nat.le_of_succ_le hn)) (piecesAt m c ⟨n, hn⟩)

/-- The scratch after the last point. -/
def scrEnd (c : Dev nD) (s : Vec F S4x512x640 .f32) : Vec F S4x512x640 .f32 := scrAt m c s cfg0.N (le_refl _)

/-- Some contents. -/
def junk : Vec F S4x512x640 .f32 := View.canon []

/-- Inside a newest piece whose rectangle has unit strides, its payload is read; -/
theorem over_in {off off' size : Fin 3 → ℕ} (inb : ∀ a, off a + size a ≤ S4x512x640.size a)
    (w : (Rect.unit (s := S4x512x640) off size inb).shape.Idx → Elt F .f32) (s : Vec F S4x512x640 .f32) (L : List (View.Piece (Elt F) S4x512x640 .f32))
    (y : S4x512x640.Idx) (x : (Rect.unit (s := S4x512x640) off size inb).shape.Idx) (heq : off = off') (hx : ∀ a, (y a).val = off' a + (x a).val) :
    over s ((⟨Rect.unit (s := S4x512x640) off size inb, w⟩ : View.Piece (Elt F) S4x512x640 .f32) :: L) y = w x := by
  subst heq
  have hy : (Rect.unit (s := S4x512x640) off size inb).emb x = y := funext fun a => Fin.ext (by
    show off a + 1 * (x a).val = (y a).val
    rw [hx a, Nat.one_mul])
  rw [← hy]
  exact Rect.overlay_emb _ _ _ x

/-- outside it, what the earlier pieces leave. -/
theorem over_out {off off' size : Fin 3 → ℕ} (inb : ∀ a, off a + size a ≤ S4x512x640.size a)
    (w : (Rect.unit (s := S4x512x640) off size inb).shape.Idx → Elt F .f32) (s : Vec F S4x512x640 .f32) (L : List (View.Piece (Elt F) S4x512x640 .f32))
    (y : S4x512x640.Idx) (heq : off = off') (a : Fin 3) (ha : (y a).val < off' a ∨ off' a + size a ≤ (y a).val) :
    over s ((⟨Rect.unit (s := S4x512x640) off size inb, w⟩ : View.Piece (Elt F) S4x512x640 .f32) :: L) y = over s L y := by
  subst heq
  refine Rect.overlay_of_not_mem _ _ _ ?_
  show y ∉ (Rect.unit (s := S4x512x640) off size inb).set
  rw [Rect.mem_set_unit]
  intro hall
  have := hall a
  omega

theorem off0_eq (t : Fin cfg0.N) : k0_off1 (grid0.coords t) = ![t.val, 0, 0] :=
  (by decide +kernel : ∀ t : Fin grid0.N, k0_off1 (grid0.coords t) = ![t.val, 0, 0]) t
theorem off1_eq (t : Fin cfg0.N) : k0_off2 (grid0.coords t) = ![t.val, 0, 128] :=
  (by decide +kernel : ∀ t : Fin grid0.N, k0_off2 (grid0.coords t) = ![t.val, 0, 128]) t
theorem off2_eq (t : Fin cfg0.N) : k0_off3 (grid0.coords t) = ![t.val, 0, 256] :=
  (by decide +kernel : ∀ t : Fin grid0.N, k0_off3 (grid0.coords t) = ![t.val, 0, 256]) t
theorem off3_eq (t : Fin cfg0.N) : k0_off4 (grid0.coords t) = ![t.val, 0, 384] :=
  (by decide +kernel : ∀ t : Fin grid0.N, k0_off4 (grid0.coords t) = ![t.val, 0, 384]) t
theorem off4_eq (t : Fin cfg0.N) : k0_off5 (grid0.coords t) = ![t.val, 0, 512] :=
  (by decide +kernel : ∀ t : Fin grid0.N, k0_off5 (grid0.coords t) = ![t.val, 0, 512]) t

/-- The five payloads of a point. -/
def headAt (c : Dev nD) (t : Fin cfg0.N) : Fin 5 → Vec F S1x512x128 .f32
  | 0 => head0 (X0_0 m c t) (iblk m c 1 t) (iblk m c 2 t) (iblk m c 3 t) (iblk m c 4 t)
  | 1 => head1 (X0_0 m c t) (iblk m c 1 t) (iblk m c 2 t) (iblk m c 3 t) (iblk m c 4 t)
  | 2 => head2 (X0_0 m c t) (iblk m c 1 t) (iblk m c 2 t) (iblk m c 3 t) (iblk m c 4 t)
  | 3 => head3 (X0_0 m c t) (iblk m c 1 t) (iblk m c 2 t) (iblk m c 3 t) (iblk m c 4 t)
  | 4 => head4 (X0_0 m c t) (iblk m c 1 t) (iblk m c 2 t) (iblk m c 3 t) (iblk m c 4 t)

/-- A point leaves the other slices of the scratch alone; -/
theorem over_piecesAt_ne (c : Dev nD) (t : Fin cfg0.N) (s : Vec F S4x512x640 .f32) (y : S4x512x640.Idx) (h : (y 0).val ≠ t.val) :
    over s (piecesAt m c t) y = s y := by
  unfold piecesAt pieces
  rw [over_out _ _ _ _ _ (off4_eq t) 0 (by show (y 0).val < t.val ∨ t.val + 1 ≤ (y 0).val; omega), over_out _ _ _ _ _ (off3_eq t) 0 (by show (y 0).val < t.val ∨ t.val + 1 ≤ (y 0).val; omega), over_out _ _ _ _ _ (off2_eq t) 0 (by show (y 0).val < t.val ∨ t.val + 1 ≤ (y 0).val; omega), over_out _ _ _ _ _ (off1_eq t) 0 (by show (y 0).val < t.val ∨ t.val + 1 ≤ (y 0).val; omega), over_out _ _ _ _ _ (off0_eq t) 0 (by show (y 0).val < t.val ∨ t.val + 1 ≤ (y 0).val; omega)]
  rfl

/-- in its own it leaves head 0 at that head's columns. -/
theorem over_piecesAt_0 (c : Dev nD) (t : Fin cfg0.N) (s : Vec F S4x512x640 .f32) (y : S4x512x640.Idx) (x : S1x512x128.Idx) (h0 : (y 0).val = t.val)
    (h1 : (y 1).val = (x 1).val) (h2 : (y 2).val = 0 + (x 2).val) : over s (piecesAt m c t) y = headAt m c t 0 x := by
  have hx : (x 2).val < 128 := (x 2).isLt
  have hx0 : (x 0).val < 1 := (x 0).isLt
  unfold piecesAt pieces
  rw [over_out _ _ _ _ _ (off4_eq t) 2 (by show (y 2).val < 512 ∨ 512 + 128 ≤ (y 2).val; omega), over_out _ _ _ _ _ (off3_eq t) 2 (by show (y 2).val < 384 ∨ 384 + 128 ≤ (y 2).val; omega), over_out _ _ _ _ _ (off2_eq t) 2 (by show (y 2).val < 256 ∨ 256 + 128 ≤ (y 2).val; omega), over_out _ _ _ _ _ (off1_eq t) 2 (by show (y 2).val < 128 ∨ 128 + 128 ≤ (y 2).val; omega)]
  exact over_in _ _ _ _ y x (off0_eq t) fun a => by
    fin_cases a
    · show (y 0).val = t.val + (x 0).val; omega
    · show (y 1).val = 0 + (x 1).val; omega
    · show (y 2).val = 0 + (x 2).val; omega

/-- in its own it leaves head 1 at that head's columns. -/
theorem over_piecesAt_1 (c : Dev nD) (t : Fin cfg0.N) (s : Vec F S4x512x640 .f32) (y : S4x512x640.Idx) (x : S1x512x128.Idx) (h0 : (y 0).val = t.val)
    (h1 : (y 1).val = (x 1).val) (h2 : (y 2).val = 128 + (x 2).val) : over s (piecesAt m c t) y = headAt m c t 1 x := by
  have hx : (x 2).val < 128 := (x 2).isLt
  have hx0 : (x 0).val < 1 := (x 0).isLt
  unfold piecesAt pieces
  rw [over_out _ _ _ _ _ (off4_eq t) 2 (by show (y 2).val < 512 ∨ 512 + 128 ≤ (y 2).val; omega), over_out _ _ _ _ _ (off3_eq t) 2 (by show (y 2).val < 384 ∨ 384 + 128 ≤ (y 2).val; omega), over_out _ _ _ _ _ (off2_eq t) 2 (by show (y 2).val < 256 ∨ 256 + 128 ≤ (y 2).val; omega)]
  exact over_in _ _ _ _ y x (off1_eq t) fun a => by
    fin_cases a
    · show (y 0).val = t.val + (x 0).val; omega
    · show (y 1).val = 0 + (x 1).val; omega
    · show (y 2).val = 128 + (x 2).val; omega

/-- in its own it leaves head 2 at that head's columns. -/
theorem over_piecesAt_2 (c : Dev nD) (t : Fin cfg0.N) (s : Vec F S4x512x640 .f32) (y : S4x512x640.Idx) (x : S1x512x128.Idx) (h0 : (y 0).val = t.val)
    (h1 : (y 1).val = (x 1).val) (h2 : (y 2).val = 256 + (x 2).val) : over s (piecesAt m c t) y = headAt m c t 2 x := by
  have hx : (x 2).val < 128 := (x 2).isLt
  have hx0 : (x 0).val < 1 := (x 0).isLt
  unfold piecesAt pieces
  rw [over_out _ _ _ _ _ (off4_eq t) 2 (by show (y 2).val < 512 ∨ 512 + 128 ≤ (y 2).val; omega), over_out _ _ _ _ _ (off3_eq t) 2 (by show (y 2).val < 384 ∨ 384 + 128 ≤ (y 2).val; omega)]
  exact over_in _ _ _ _ y x (off2_eq t) fun a => by
    fin_cases a
    · show (y 0).val = t.val + (x 0).val; omega
    · show (y 1).val = 0 + (x 1).val; omega
    · show (y 2).val = 256 + (x 2).val; omega

/-- in its own it leaves head 3 at that head's columns. -/
theorem over_piecesAt_3 (c : Dev nD) (t : Fin cfg0.N) (s : Vec F S4x512x640 .f32) (y : S4x512x640.Idx) (x : S1x512x128.Idx) (h0 : (y 0).val = t.val)
    (h1 : (y 1).val = (x 1).val) (h2 : (y 2).val = 384 + (x 2).val) : over s (piecesAt m c t) y = headAt m c t 3 x := by
  have hx : (x 2).val < 128 := (x 2).isLt
  have hx0 : (x 0).val < 1 := (x 0).isLt
  unfold piecesAt pieces
  rw [over_out _ _ _ _ _ (off4_eq t) 2 (by show (y 2).val < 512 ∨ 512 + 128 ≤ (y 2).val; omega)]
  exact over_in _ _ _ _ y x (off3_eq t) fun a => by
    fin_cases a
    · show (y 0).val = t.val + (x 0).val; omega
    · show (y 1).val = 0 + (x 1).val; omega
    · show (y 2).val = 384 + (x 2).val; omega

/-- in its own it leaves head 4 at that head's columns. -/
theorem over_piecesAt_4 (c : Dev nD) (t : Fin cfg0.N) (s : Vec F S4x512x640 .f32) (y : S4x512x640.Idx) (x : S1x512x128.Idx) (h0 : (y 0).val = t.val)
    (h1 : (y 1).val = (x 1).val) (h2 : (y 2).val = 512 + (x 2).val) : over s (piecesAt m c t) y = headAt m c t 4 x := by
  have hx : (x 2).val < 128 := (x 2).isLt
  have hx0 : (x 0).val < 1 := (x 0).isLt
  unfold piecesAt pieces
  exact over_in _ _ _ _ y x (off4_eq t) fun a => by
    fin_cases a
    · show (y 0).val = t.val + (x 0).val; omega
    · show (y 1).val = 0 + (x 1).val; omega
    · show (y 2).val = 512 + (x 2).val; omega

theorem over_piecesAt (c : Dev nD) (t : Fin cfg0.N) (k : Fin 5) (s : Vec F S4x512x640 .f32) (y : S4x512x640.Idx) (x : S1x512x128.Idx) (h0 : (y 0).val = t.val)
    (h1 : (y 1).val = (x 1).val) (h2 : (y 2).val = 128 * k.val + (x 2).val) : over s (piecesAt m c t) y = headAt m c t k x := by
  fin_cases k
  · exact over_piecesAt_0 m c t s y x h0 h1 h2
  · exact over_piecesAt_1 m c t s y x h0 h1 h2
  · exact over_piecesAt_2 m c t s y x h0 h1 h2
  · exact over_piecesAt_3 m c t s y x h0 h1 h2
  · exact over_piecesAt_4 m c t s y x h0 h1 h2

/-- After point `t` the scratch holds head `k` of that point at its place, and keeps it. -/
theorem scrAt_at (c : Dev nD) (s : Vec F S4x512x640 .f32) (t : Fin cfg0.N) (k : Fin 5) (y : S4x512x640.Idx) (x : S1x512x128.Idx) (h0 : (y 0).val = t.val)
    (h1 : (y 1).val = (x 1).val) (h2 : (y 2).val = 128 * k.val + (x 2).val) :
    ∀ (n : ℕ) (hn : n ≤ cfg0.N), t.val < n → scrAt m c s n hn y = headAt m c t k x := by
  intro n
  induction n with
  | zero => intro hn h; exact absurd h (Nat.not_lt_zero _)
  | succ n ih =>
    intro hn h
    unfold scrAt
    by_cases e : t.val = n
    · obtain rfl : t = ⟨n, hn⟩ := Fin.ext e
      exact over_piecesAt m c _ k _ y x h0 h1 h2
    · rw [over_piecesAt_ne m c ⟨n, hn⟩ _ y (by show (y 0).val ≠ n; omega)]
      exact ih _ (by omega)

/-- The scratch at the end, entry by entry. -/
theorem scrEnd_at (c : Dev nD) (s : Vec F S4x512x640 .f32) (t : Fin cfg0.N) (k : Fin 5) (y : S4x512x640.Idx) (x : S1x512x128.Idx) (h0 : (y 0).val = t.val)
    (h1 : (y 1).val = (x 1).val) (h2 : (y 2).val = 128 * k.val + (x 2).val) : scrEnd m c s y = headAt m c t k x :=
  scrAt_at m c s t k y x h0 h1 h2 _ _ t.isLt

/-- So it does not depend on what it held at the start. -/
theorem scrEnd_eq (c : Dev nD) (s s' : Vec F S4x512x640 .f32) : scrEnd m c s = scrEnd m c s' := by
  funext y
  have b0 : (y 0).val < 4 := (y 0).isLt
  have b1 : (y 1).val < 512 := (y 1).isLt
  have b2 : (y 2).val < 640 := (y 2).isLt
  have hN : (y 0).val < cfg0.N := Nat.lt_of_lt_of_eq b0 N_0.symm
  have e := fun s => scrEnd_at m c s ⟨(y 0).val, hN⟩ ⟨(y 2).val / 128, by omega⟩ y (ValueIdx.ix3 (⟨0, by decide⟩ : Fin 1) (⟨(y 1).val, b1⟩ : Fin 512) (⟨(y 2).val % 128, Nat.mod_lt _ (by decide)⟩ : Fin 128)) rfl rfl
    (by show (y 2).val = 128 * ((y 2).val / 128) + (y 2).val % 128; omega)
  rw [e, e]

/-- The region invariant before position `n`: the scratch as the points before it left it, and the generator register. -/
def PhiS (c : Dev nD) (n : ℕ) (hn : n ≤ cfg0.N) : sProp 𝕄 :=
  iprop((∃ s, owns (c : Thread nD τ) scM0_0 fullShare (scrAt m c s n hn)) ∗ (∃ r, prngReg c r))

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The proof data of the pipeline: every input's buffer at its block, the outputs' at the quantised scratch. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => out0_5 (scrEnd m c junk)
    | ⟨6, _⟩ => out0_6 (scrEnd m c junk)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (scrEnd m c junk) := by dsimp only [dats]
theorem after0_6 (c : Dev nD) (t : Fin cfg0.N) : (dats m 0 c).after 6 t = out0_6 (scrEnd m c junk) := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem lv0_0 (c : Dev nD) (t : Fin cfg0.N) : (dats m 0 c).leavesExact 0 t = owns (c : Thread nD τ) (ms0_0 t) fullShare ((dats m 0 c).after 0 t) := by
  unfold Dat.leavesExact; rw [live0_0 t ]
theorem lv0_1 (c : Dev nD) (t : Fin cfg0.N) : (dats m 0 c).leavesExact 1 t = owns (c : Thread nD τ) (ms0_1 t) fullShare ((dats m 0 c).after 1 t) := by
  unfold Dat.leavesExact; rw [live0_1 t ]
theorem lv0_2 (c : Dev nD) (t : Fin cfg0.N) : (dats m 0 c).leavesExact 2 t = owns (c : Thread nD τ) (ms0_2 t) fullShare ((dats m 0 c).after 2 t) := by
  unfold Dat.leavesExact; rw [live0_2 t ]
theorem lv0_3 (c : Dev nD) (t : Fin cfg0.N) : (dats m 0 c).leavesExact 3 t = owns (c : Thread nD τ) (ms0_3 t) fullShare ((dats m 0 c).after 3 t) := by
  unfold Dat.leavesExact; rw [live0_3 t ]
theorem lv0_4 (c : Dev nD) (t : Fin cfg0.N) : (dats m 0 c).leavesExact 4 t = owns (c : Thread nD τ) (ms0_4 t) fullShare ((dats m 0 c).after 4 t) := by
  unfold Dat.leavesExact; rw [live0_4 t ]
theorem lv0_5 (c : Dev nD) (t : Fin cfg0.N) (h : t.val = 3) : (dats m 0 c).leavesExact 5 t = owns (c : Thread nD τ) (ms0_5 t) fullShare ((dats m 0 c).after 5 t) := by
  unfold Dat.leavesExact; rw [live0_5 t ((hcond0_0 t).mpr h)]
theorem lv0_6 (c : Dev nD) (t : Fin cfg0.N) (h : t.val = 3) : (dats m 0 c).leavesExact 6 t = owns (c : Thread nD τ) (ms0_6 t) fullShare ((dats m 0 c).after 6 t) := by
  unfold Dat.leavesExact; rw [live0_6 t ((hcond0_0 t).mpr h)]
/-- The buffer of a point that does not store it is handed back as it was found. -/
theorem idlv0_5 (c : Dev nD) (t : Fin cfg0.N) (h : t.val ≠ 3) : (dats m 0 c).leavesExact 5 t = iprop(∃ d, owns (c : Thread nD τ) (ms0_5 t) fullShare ((dats m 0 c).before 5 t d)) := by
  have ht : t.val < 4 := Nat.lt_of_lt_of_eq t.isLt N_0
  have hf : (cfg0.win 5).flush t = false := by
    rw [Bool.eq_false_iff]; intro e; have := (flush0_5 t).mp e; omega
  unfold Dat.leavesExact
  rw [idle0_5 t (fun hc => h ((hcond0_0 t).mp hc)), hf]
/-- The buffer of a point that does not store it is handed back as it was found. -/
theorem idlv0_6 (c : Dev nD) (t : Fin cfg0.N) (h : t.val ≠ 3) : (dats m 0 c).leavesExact 6 t = iprop(∃ d, owns (c : Thread nD τ) (ms0_6 t) fullShare ((dats m 0 c).before 6 t d)) := by
  have ht : t.val < 4 := Nat.lt_of_lt_of_eq t.isLt N_0
  have hf : (cfg0.win 6).flush t = false := by
    rw [Bool.eq_false_iff]; intro e; have := (flush0_6 t).mp e; omega
  unfold Dat.leavesExact
  rw [idle0_6 t (fun hc => h ((hcond0_0 t).mp hc)), hf]

theorem Phi_castSucc (c : Dev nD) (t : Fin cfg0.N) : (dats m 0 c).Φ t.castSucc = PhiS m c t.val (Nat.le_of_lt t.isLt) := rfl
theorem Phi_succ (c : Dev nD) (t : Fin cfg0.N) : (dats m 0 c).Φ t.succ = PhiS m c (t.val + 1) t.isLt := rfl

/-- The scratch after one more point. -/
theorem scrAt_succ (c : Dev nD) (s : Vec F S4x512x640 .f32) (t : Fin cfg0.N) :
    scrAt m c s (t.val + 1) t.isLt = over (scrAt m c s t.val (Nat.le_of_lt t.isLt)) (pieces (grid0.coords t) (X0_0 m c t) (iblk m c 1 t) (iblk m c 2 t) (iblk m c 3 t) (iblk m c 4 t)) := rfl

/-- After the last point it is the one the outputs are stated with. -/
theorem scrAt_last (c : Dev nD) (s : Vec F S4x512x640 .f32) (t : Fin cfg0.N) (h : t.val = 3) :
    over (scrAt m c s t.val (Nat.le_of_lt t.isLt)) (pieces (grid0.coords t) (X0_0 m c t) (iblk m c 1 t) (iblk m c 2 t) (iblk m c 3 t) (iblk m c 4 t)) = scrEnd m c junk := by
  rw [scrEnd_eq m c junk s, ← scrAt_succ]
  obtain rfl : t = ⟨3, Nat.lt_of_lt_of_eq (by decide) N_0.symm⟩ := Fin.ext h
  rfl

set_option maxHeartbeats 1600000 in
/-- The body at any point, by whether it is the last. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Phi_castSucc, Phi_succ, show (dats m 0 c).owesAt () t.succ = (dats m 0 c).owesAt () t.castSucc from rfl,
    lv0_0, lv0_1, lv0_2, lv0_3, lv0_4, after0_0, after0_1, after0_2, after0_3, after0_4]
  unfold PhiS
  by_cases h0 : t.val = 3
  · rw [lv0_5 m c t h0, lv0_6 m c t h0, after0_5, after0_6]
    iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun0_B c (grid0.coords t) _ _ _ _ _ _ _ _ _ _ _ _ _ _ _ _ ((hcond0_0 t).mpr h0) (X0_0 m c t) (iblk m c 1 t) (iblk m c 2 t) (iblk m c 3 t) (iblk m c 4 t) (scrAt m c s t.val (Nat.le_of_lt t.isLt)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    rw [scrAt_last m c s t h0]
    iintro ⟨H0, H1, H2, H3, H4, H5, H6, HS⟩
    isplitl [HS Hg]
    · isplitl [HS]
      · iexists s; rw [scrAt_succ, scrAt_last m c s t h0]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [idlv0_5 m c t h0, idlv0_6 m c t h0]
    iintro ⟨⟨⟨%s, HS⟩, Hg⟩, Ho, ⟨%d0, H0⟩, ⟨%d1, H1⟩, ⟨%d2, H2⟩, ⟨%d3, H3⟩, ⟨%d4, H4⟩, H5, H6⟩
    iapply (kernelRun0_A c (grid0.coords t) _ _ _ _ _ _ _ _ _ _ _ _ _ _ _ _ (fun h => h0 ((hcond0_0 t).mp h)) (X0_0 m c t) (iblk m c 1 t) (iblk m c 2 t) (iblk m c 3 t) (iblk m c 4 t) (scrAt m c s t.val (Nat.le_of_lt t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists s; rw [scrAt_succ]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  exact Idealize.SL.BI.Entails.refl _

/-- After the last point the scratch's contents are forgotten. -/
theorem hout (c : Dev nD) : (dats m 0 c).Φ (Fin.last cfg0.N) ⊢ Pipeline.ΦA spec0 c := by
  rw [show (dats m 0 c).Φ (Fin.last cfg0.N) = PhiS m c cfg0.N (le_refl _) from rfl, PhiA0_eq]
  unfold PhiS
  iintro ⟨⟨%s, HS⟩, Hg⟩
  isplitl [HS]
  · iexists _; iexact HS
  iexact Hg

set_option backward.isDefEq.respectTransparency.types false in
set_option maxHeartbeats 800000 in
/-- Every execution ends with the arrays at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.AttnIdeal.Hand

end
-- ==== Proof.Quant.lean ====
/-
  The quantiser's power of two on scalars. The kernel counts the exponent's steps below the row's scaled maximum and builds
  the scale from its bits; the reference takes the floor of a logarithm and a power of two. Over the extended reals the two
  agree at every row maximum.
-/
module

public import Idealize.ShloMosaic.Lib.Pointwise
public import Idealize.ShloMosaic.Lib.IdealHost

@[expose] public section

set_option maxRecDepth 16384

noncomputable section

open Idealize.ShloMosaic

namespace Cert.Quant

/-- The word whose exponent field is `k` and whose other fields are zero. -/
def word (k : BitVec 32) : BitVec 32 := IntOp.shli .vector k 23#32

/-- Whether step `k` of the ladder counts at `t`: `k > 0` and `t` is at least the float of word `k`. -/
def step (t : EReal) (k : BitVec 32) : BitVec 32 :=
  BitVec.setWidth 32 (IntOp.andi (IntOp.cmpi .sgt k 0#32) (BitVec.ofBool (decide (Ideal.ofBits .f32 (word k) ≤ t))))

/-- The exponent the kernel takes at a row maximum `a`. -/
def kexp (a : EReal) : BitVec 32 :=
  Scalar.select
    (IntOp.ori
      (IntOp.ori
        (IntOp.cmpi .eq (Finset.fold IntOp.addi (0#32) (fun k : Fin 256 => step (a * Ideal.ofBits .f32 0x3B124925#32) (BitVec.ofNat 32 k)) Finset.univ) 0#32)
        (IntOp.cmpi .eq (Finset.fold IntOp.addi (0#32) (fun k : Fin 256 => step (a * Ideal.ofBits .f32 0x3B124925#32) (BitVec.ofNat 32 k)) Finset.univ) 255#32))
      (BitVec.ofBool (decide (a = 0))))
    (0#32)
    (IntOp.subi (Finset.fold IntOp.addi (0#32) (fun k : Fin 256 => step (a * Ideal.ofBits .f32 0x3B124925#32) (BitVec.ofNat 32 k)) Finset.univ) 126#32)

/-- The word of the power of two the kernel builds from an exponent. -/
def kword (e : BitVec 32) : BitVec 32 :=
  Scalar.select (IntOp.cmpi .sle (IntOp.addi e 127#32) 0#32) (0#32)
    (Scalar.select (IntOp.cmpi .sge (IntOp.addi e 127#32) 255#32) (2139095040#32) (word (IntOp.addi e 127#32)))

/-- The power of two the kernel builds from an exponent. -/
def kscale (e : BitVec 32) : EReal := Ideal.ofBits .f32 (kword e)

/-- The exponent the reference takes at a row maximum `a`. -/
def rexp (a : EReal) : EReal :=
  if a = 0 then 0
  else
    Scalar.select
      (IntOp.andi (BitVec.ofBool (decide (Ideal.ofBits .f32 0x00800000#32 ≤ a * Ideal.ofBits .f32 0x3B124925#32)))
        (BitVec.ofBool (decide (a * Ideal.ofBits .f32 0x3B124925#32 < Ideal.ofBits .f32 0x7F800000#32))))
      (Ideal.liftRound Int.floor
          (Ideal.div (Ideal.log (a * Ideal.ofBits .f32 0x3B124925#32)) (Ideal.log (Ideal.ofBits .f32 0x40000000#32))) + 1)
      0

/-- The power of two the reference takes from an exponent. -/
def rscale (e : EReal) : EReal :=
  if e < Ideal.ofBits .f32 0xC2FC0000#32 then 0
  else if Ideal.ofBits .f32 0x42FE0000#32 < e then Ideal.ofBits .f32 0x7F800000#32 else Ideal.exp2 e

/-- The fields of the words of the ladder. -/
theorem fields : ∀ k : Fin 256, ((word (BitVec.ofNat 32 k)).extractLsb' 31 1 == 1#1) = false
    ∧ ((word (BitVec.ofNat 32 k)).extractLsb' 23 8).toNat = k.val ∧ ((word (BitVec.ofNat 32 k)).extractLsb' 0 23).toNat = 0 := by
  decide +kernel

/-- A positive normal word with zero fraction denotes a power of two. -/
theorem ieee_pow (b : BitVec 32) (k : ℕ) (hs : (b.extractLsb' 31 1 == 1#1) = false) (he : (b.extractLsb' 23 8).toNat = k)
    (hf : (b.extractLsb' 0 23).toNat = 0) (h1 : 1 ≤ k) (h2 : k ≤ 254) :
    Ideal.ofBits .f32 b = (((2 : ℝ) ^ ((k : ℤ) - 127) : ℝ) : EReal) := by
  have e1 : ¬ (k = 2 ^ 8 - 1) := by omega
  have e2 : ¬ (k = 0) := by omega
  have key : (1 : ℝ) * ((2 ^ 23 + 0 : ℕ) : ℝ) * (2 : ℝ) ^ ((k : ℤ) - (2 ^ (8 - 1) - 1) - (23 : ℕ)) = (2 : ℝ) ^ ((k : ℤ) - 127) := by
    have h : ((k : ℤ) - 127) = 23 + ((k : ℤ) - (2 ^ (8 - 1) - 1) - (23 : ℕ)) := by norm_num
    rw [h, zpow_add₀ (by norm_num)]
    norm_num
  show Ideal.ieee 8 23 b = _
  unfold Ideal.ieee
  simp only [Nat.reduceAdd, hs, he, hf, if_neg e1, if_neg e2, Bool.false_eq_true, if_false]
  rw [key]

/-- A word of the ladder between the ends denotes its power of two. -/
theorem ofBits_word (k : Fin 256) (h1 : 1 ≤ k.val) (h2 : k.val ≤ 254) :
    Ideal.ofBits .f32 (word (BitVec.ofNat 32 k)) = (((2 : ℝ) ^ ((k.val : ℤ) - 127) : ℝ) : EReal) :=
  ieee_pow _ k.val (fields k).1 (fields k).2.1 (fields k).2.2 h1 h2

/-- The ladder's last word denotes infinity. -/
theorem ofBits_inf : Ideal.ofBits .f32 0x7F800000#32 = ⊤ := by
  simp [Ideal.ofBits, Ideal.ieee]
theorem ofBits_word_255 : Ideal.ofBits .f32 (word (BitVec.ofNat 32 (255 : Fin 256).val)) = ⊤ := by
  have h : word (BitVec.ofNat 32 (255 : Fin 256).val) = 0x7F800000#32 := by decide
  rw [h, ofBits_inf]
theorem ofBits_lo : Ideal.ofBits .f32 0x00800000#32 = (((2 : ℝ) ^ (-126 : ℤ) : ℝ) : EReal) := by
  have h := ieee_pow 0x00800000#32 1 (by decide) (by decide) (by decide) (by decide) (by decide)
  rw [h]; norm_num
theorem ofBits_two : Ideal.ofBits .f32 0x40000000#32 = ((2 : ℝ) : EReal) := by
  have h := ieee_pow 0x40000000#32 128 (by decide) (by decide) (by decide) (by decide) (by decide)
  rw [h]; norm_num
theorem ofBits_m126 : Ideal.ofBits .f32 0xC2FC0000#32 = ((-126 : ℝ) : EReal) := by
  simp [Ideal.ofBits, Ideal.ieee]; norm_cast; norm_num
theorem ofBits_127 : Ideal.ofBits .f32 0x42FE0000#32 = ((127 : ℝ) : EReal) := by
  simp [Ideal.ofBits, Ideal.ieee]; norm_cast; norm_num
/-- The scale's constant is a positive real. -/
theorem ofBits_c : ∃ c : ℝ, 0 < c ∧ Ideal.ofBits .f32 0x3B124925#32 = (c : EReal) := by
  refine ⟨_, ?_, by simp only [Ideal.ofBits, Ideal.ieee]; rw [if_neg (by decide), if_neg (by decide)]⟩
  simp

/-- The count of a ladder whose first `n` steps hold. -/
theorem count : ∀ n : Fin 256, Finset.fold IntOp.addi (0#32)
    (fun k : Fin 256 => BitVec.setWidth 32 (IntOp.andi (IntOp.cmpi .sgt (BitVec.ofNat 32 k) 0#32) (BitVec.ofBool (decide (k.val ≤ n.val))))) Finset.univ
    = BitVec.ofNat 32 n := by
  decide +kernel

/-- The ladder's count at `t`, from where its steps end. -/
theorem fold_eq (t : EReal) (n : Fin 256)
    (h : ∀ k : Fin 256, 1 ≤ k.val → (Ideal.ofBits .f32 (word (BitVec.ofNat 32 k)) ≤ t ↔ k.val ≤ n.val)) :
    Finset.fold IntOp.addi (0#32) (fun k : Fin 256 => step t (BitVec.ofNat 32 k)) Finset.univ = BitVec.ofNat 32 n := by
  rw [← count n]
  congr 1
  funext k
  unfold step
  rcases Nat.eq_zero_or_pos k.val with h0 | h1
  · have : k = 0 := Fin.ext h0
    subst this
    have z : IntOp.cmpi .sgt (BitVec.ofNat 32 (0 : Fin 256).val) 0#32 = 0#1 := by decide
    rw [z]
    simp [IntOp.andi]
  · rw [decide_eq_decide.mpr (h k h1)]

end Cert.Quant

end
-- ==== Proof.Scale.lean ====
/-
  The quantiser's two scales, kernel against reference, at every row maximum.
-/
module

public import proofs.«01_k».proof.Proof.Quant

@[expose] public section

set_option maxRecDepth 16384

noncomputable section

open Idealize.ShloMosaic

namespace Cert.Quant

/-- The kernel's word at each exponent from -128 to 128. -/
theorem kword_eq : ∀ i : Fin 257, kword (BitVec.ofInt 32 ((i.val : ℤ) - 128))
    = if i.val ≤ 1 then 0#32 else if i.val = 256 then 0x7F800000#32 else word (BitVec.ofNat 32 (i.val - 1)) := by
  decide +kernel

/-- The floor of the binary logarithm. -/
def lg (t : ℝ) : ℤ := ⌊Real.log t / Real.log 2⌋

theorem zpow_le_iff (t : ℝ) (ht : 0 < t) (k : ℤ) : (2 : ℝ) ^ k ≤ t ↔ k ≤ lg t := by
  unfold lg
  rw [Int.le_floor, le_div_iff₀ (Real.log_pos (by norm_num)), ← Real.log_zpow, Real.log_le_log_iff (by positivity) ht]

theorem ofBits_zero : Ideal.ofBits .f32 0#32 = 0 := by simp [Ideal.ofBits, Ideal.ieee]

/-- At an exponent from -128 to 128 the kernel's power of two is the reference's. -/
theorem scale_int (e : ℤ) (h1 : -128 ≤ e) (h2 : e ≤ 128) : kscale (BitVec.ofInt 32 e) = rscale ((e : ℝ) : EReal) := by
  obtain ⟨i, hi⟩ : ∃ i : Fin 257, (i.val : ℤ) - 128 = e := ⟨⟨(e + 128).toNat, by omega⟩, by simp only; omega⟩
  unfold kscale rscale
  rw [← hi, kword_eq i, hi, ofBits_m126, ofBits_127, ofBits_inf]
  by_cases a1 : i.val ≤ 1
  · have : (e : ℝ) < -126 := by exact_mod_cast (by omega : e < -126)
    rw [if_pos a1, if_pos (EReal.coe_lt_coe_iff.mpr this), ofBits_zero]
  · have n1 : ¬ ((e : ℝ) < -126) := by
      rw [not_lt]; exact_mod_cast (by omega : -126 ≤ e)
    rw [if_neg a1, if_neg (fun h => n1 (EReal.coe_lt_coe_iff.mp h))]
    by_cases a2 : i.val = 256
    · have : (127 : ℝ) < e := by exact_mod_cast (by omega : 127 < e)
      rw [if_pos a2, if_pos (EReal.coe_lt_coe_iff.mpr this), ofBits_inf]
    · have n2 : ¬ ((127 : ℝ) < e) := by
        rw [not_lt]; exact_mod_cast (by omega : e ≤ 127)
      rw [if_neg a2, if_neg (fun h => n2 (EReal.coe_lt_coe_iff.mp h))]
      have hk := ofBits_word ⟨i.val - 1, by omega⟩ (by simp only; omega) (by simp only; omega)
      refine Eq.trans hk ?_
      show _ = ((Real.rpow 2 (e : ℝ) : ℝ) : EReal)
      have h : Real.rpow 2 (e : ℝ) = (2 : ℝ) ^ e := Real.rpow_intCast 2 e
      rw [h]
      congr 2
      simp only
      omega

/-- Above the range both are infinite, and below it both are zero. -/
theorem rscale_big (e : ℤ) (h : 128 ≤ e) : rscale ((e : ℝ) : EReal) = ⊤ := by
  unfold rscale
  have n1 : ¬ ((e : ℝ) < -126) := by
    rw [not_lt]; exact_mod_cast (by omega : -126 ≤ e)
  have : (127 : ℝ) < e := by exact_mod_cast (by omega : 127 < e)
  rw [ofBits_m126, ofBits_127, ofBits_inf, if_neg (fun h => n1 (EReal.coe_lt_coe_iff.mp h)), if_pos (EReal.coe_lt_coe_iff.mpr this)]
theorem rscale_small (e : ℤ) (h : e ≤ -127) : rscale ((e : ℝ) : EReal) = 0 := by
  unfold rscale
  have : (e : ℝ) < -126 := by exact_mod_cast (by omega : e < -126)
  rw [ofBits_m126, if_pos (EReal.coe_lt_coe_iff.mpr this)]

/-- The kernel's exponent from the ladder's count. -/
theorem kexp_eq (a : EReal) (ha : a ≠ 0) (n : Fin 256)
    (h : ∀ k : Fin 256, 1 ≤ k.val → (Ideal.ofBits .f32 (word (BitVec.ofNat 32 k)) ≤ a * Ideal.ofBits .f32 0x3B124925#32 ↔ k.val ≤ n.val)) :
    kexp a = if n.val = 0 ∨ n.val = 255 then 0#32 else BitVec.ofInt 32 ((n.val : ℤ) - 126) := by
  unfold kexp
  rw [fold_eq _ n h, decide_eq_false ha]
  clear h ha
  revert n
  decide +kernel

/-- The reference's exponent where the scaled maximum is no normal number: zero. -/
theorem rexp_out (a : EReal) (h : ¬ (Ideal.ofBits .f32 0x00800000#32 ≤ a * Ideal.ofBits .f32 0x3B124925#32
    ∧ a * Ideal.ofBits .f32 0x3B124925#32 < Ideal.ofBits .f32 0x7F800000#32)) : rexp a = 0 := by
  unfold rexp
  split_ifs
  · rfl
  · unfold Scalar.select
    rw [if_neg]
    intro hc
    apply h
    by_cases h1 : Ideal.ofBits .f32 0x00800000#32 ≤ a * Ideal.ofBits .f32 0x3B124925#32
    · refine ⟨h1, ?_⟩
      by_contra h2
      rw [decide_eq_false h2] at hc
      generalize decide (Ideal.ofBits .f32 0x00800000#32 ≤ a * Ideal.ofBits .f32 0x3B124925#32) = x at hc
      cases x <;> exact absurd hc (by decide)
    · rw [decide_eq_false h1] at hc
      generalize decide (a * Ideal.ofBits .f32 0x3B124925#32 < Ideal.ofBits .f32 0x7F800000#32) = x at hc
      cases x <;> exact absurd hc (by decide)

/-- The reference's exponent where the scaled maximum is the real `t`, a normal number or more. -/
theorem rexp_in (a : EReal) (ha : a ≠ 0) (t : ℝ) (ht : a * Ideal.ofBits .f32 0x3B124925#32 = (t : EReal)) (h : (2 : ℝ) ^ (-126 : ℤ) ≤ t) :
    rexp a = (((lg t + 1 : ℤ) : ℝ) : EReal) := by
  have t0 : 0 < t := lt_of_lt_of_le (by positivity) h
  unfold rexp
  rw [if_neg ha, ht, ofBits_lo, ofBits_inf, ofBits_two, decide_eq_true (EReal.coe_le_coe_iff.mpr h), decide_eq_true (EReal.coe_lt_top t)]
  have l1 : Ideal.log (t : EReal) = ((Real.log t : ℝ) : EReal) := by
    show (if t ≤ 0 then (⊥ : EReal) else _) = _
    rw [if_neg (not_le.mpr t0)]
  have l2 : Ideal.log ((2 : ℝ) : EReal) = ((Real.log 2 : ℝ) : EReal) := by
    show (if (2 : ℝ) ≤ 0 then (⊥ : EReal) else _) = _
    rw [if_neg (by norm_num)]
  have l3 : Ideal.div ((Real.log t : ℝ) : EReal) ((Real.log 2 : ℝ) : EReal) = ((Real.log t / Real.log 2 : ℝ) : EReal) := by
    unfold Ideal.div
    have : Real.log 2 ≠ 0 := (Real.log_pos (by norm_num)).ne'
    rw [if_neg (by exact_mod_cast this), ← EReal.coe_inv, ← EReal.coe_mul]
    rfl
  rw [l1, l2, l3]
  show ((lg t : ℝ) : EReal) + 1 = _
  push_cast
  rfl

/-- Both scales, kernel against reference, at every row maximum. -/
theorem quant (a : EReal) : kscale (kexp a) = rscale (rexp a) ∧ kscale (IntOp.subi 0#32 (kexp a)) = rscale (0 - rexp a) := by
  have zero : kscale 0#32 = rscale 0 ∧ kscale (IntOp.subi 0#32 0#32) = rscale (0 - 0) := by
    have h := scale_int 0 (by omega) (by omega)
    have e : ((((0 : ℤ) : ℝ)) : EReal) = 0 := by norm_num
    rw [e] at h
    have e2 : (0 : EReal) - 0 = 0 := by simp
    rw [e2]
    exact ⟨h, h⟩
  by_cases a0 : a = 0
  · have h1 : kexp a = 0#32 := by
      unfold kexp
      rw [decide_eq_true a0]
      generalize Finset.fold IntOp.addi (0#32) (fun k : Fin 256 => step (a * Ideal.ofBits .f32 0x3B124925#32) (BitVec.ofNat 32 k)) Finset.univ = n
      have : IntOp.ori (IntOp.ori (IntOp.cmpi .eq n 0#32) (IntOp.cmpi .eq n 255#32)) (BitVec.ofBool true) = 1 := by
        generalize IntOp.ori (IntOp.cmpi .eq n 0#32) (IntOp.cmpi .eq n 255#32) = x
        revert x; decide
      rw [this]; rfl
    have h2 : rexp a = 0 := by unfold rexp; rw [if_pos a0]
    rw [h1, h2]; exact zero
  obtain ⟨c, c0, hc⟩ := ofBits_c
  by_cases hlo : Ideal.ofBits .f32 0x00800000#32 ≤ a * Ideal.ofBits .f32 0x3B124925#32
  swap
  · -- below the normal numbers: no step counts
    have h1 := kexp_eq a a0 0 fun k hk => by
      refine ⟨fun h => absurd (le_trans ?_ h) hlo, fun h => absurd h (by simp; omega)⟩
      rw [ofBits_lo]
      by_cases hk' : k.val ≤ 254
      · rw [ofBits_word k hk hk']
        exact EReal.coe_le_coe_iff.mpr (zpow_le_zpow_right₀ (by norm_num) (by omega))
      · have : k = 255 := Fin.ext (by have := k.isLt; simp; omega)
        rw [this, ofBits_word_255]; exact le_top
    rw [h1, rexp_out a (fun h => hlo h.1)]
    exact zero
  by_cases htop : a * Ideal.ofBits .f32 0x3B124925#32 = ⊤
  · have h1 := kexp_eq a a0 255 fun k hk => ⟨fun _ => by have := k.isLt; show k.val ≤ 255; omega, fun _ => by rw [htop]; exact le_top⟩
    rw [h1, rexp_out a (fun h => by rw [htop] at h; exact not_top_lt h.2)]
    exact zero
  obtain ⟨t, ht⟩ : ∃ t : ℝ, a * Ideal.ofBits .f32 0x3B124925#32 = (t : EReal) := by
    refine ⟨(a * Ideal.ofBits .f32 0x3B124925#32).toReal, (EReal.coe_toReal htop ?_).symm⟩
    intro hb
    rw [hb, ofBits_lo] at hlo
    exact absurd hlo (not_le.mpr (EReal.bot_lt_coe _))
  have hlo' : (2 : ℝ) ^ (-126 : ℤ) ≤ t := by
    rw [ht, ofBits_lo] at hlo
    exact EReal.coe_le_coe_iff.mp hlo
  have t0 : 0 < t := lt_of_lt_of_le (by positivity) hlo'
  have hp : -126 ≤ lg t := (zpow_le_iff t t0 _).mp hlo'
  have hstep : ∀ k : Fin 256, 1 ≤ k.val → k.val ≤ 254 →
      (Ideal.ofBits .f32 (word (BitVec.ofNat 32 k)) ≤ a * Ideal.ofBits .f32 0x3B124925#32 ↔ (k.val : ℤ) - 127 ≤ lg t) := fun k hk hk' => by
    rw [ofBits_word k hk hk', ht, EReal.coe_le_coe_iff]
    exact zpow_le_iff t t0 _
  have hlast : ∀ k : Fin 256, ¬ k.val ≤ 254 → ¬ (Ideal.ofBits .f32 (word (BitVec.ofNat 32 k)) ≤ a * Ideal.ofBits .f32 0x3B124925#32) := fun k hk' => by
    have : k = 255 := Fin.ext (by have := k.isLt; simp; omega)
    rw [this, ofBits_word_255, ht]
    exact not_le.mpr (EReal.coe_lt_top t)
  have h2 := rexp_in a a0 t ht hlo'
  have neg : (0 : EReal) - (((lg t + 1 : ℤ) : ℝ) : EReal) = (((-(lg t + 1) : ℤ) : ℝ) : EReal) := by
    rw [zero_sub, Int.cast_neg, EReal.coe_neg]
  rw [h2, neg]
  by_cases hbig : lg t ≤ 127
  · have h1 := kexp_eq a a0 ⟨(lg t + 127).toNat, by omega⟩ fun k hk => by
      by_cases hk' : k.val ≤ 254
      · rw [hstep k hk hk']; simp only; omega
      · refine ⟨fun h => absurd h (hlast k hk'), fun h => ?_⟩
        simp only at h; omega
    rw [if_neg (by simp only; omega)] at h1
    have e : (((lg t + 127).toNat : ℕ) : ℤ) - 126 = lg t + 1 := by omega
    simp only [e] at h1
    rw [h1]
    refine ⟨scale_int _ (by omega) (by omega), ?_⟩
    have s : IntOp.subi 0#32 (BitVec.ofInt 32 (lg t + 1)) = BitVec.ofInt 32 (-(lg t + 1)) := by
      unfold IntOp.subi
      rw [BitVec.ofInt_neg]; simp
    rw [s]
    exact scale_int _ (by omega) (by omega)
  · have h1 := kexp_eq a a0 254 fun k hk => by
      by_cases hk' : k.val ≤ 254
      · rw [hstep k hk hk']
        exact ⟨fun _ => hk', fun _ => by omega⟩
      · exact ⟨fun h => absurd h (hlast k hk'), fun h => absurd h hk'⟩
    have h1' : kexp a = BitVec.ofInt 32 128 := h1
    rw [h1', rscale_big _ (by omega), rscale_small _ (by omega)]
    have b := scale_int 128 (by omega) (by omega)
    have s := scale_int (-128) (by omega) (by omega)
    rw [rscale_big _ (by omega)] at b
    rw [rscale_small _ (by omega)] at s
    exact ⟨b, s⟩

end Cert.Quant

end
-- ==== Proof.AttnRef.lean ====
/-
  The attention reference at the ideal instance: what its host operations compute, entry by entry.
-/
module

public import proofs.«01_k».proof.Defs
public import proofs.«01_k».proof.Proof.Gen.AttnRefIdeal.Frame
public import proofs.«01_k».proof.Proof.Scale
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnRow

/-- The greatest entry of a row. -/
def mx {n : ℕ} (x : Fin n → EReal) : EReal := Finset.univ.fold max (Ideal.ofBits .f32 0xFF800000#32) x

/-- An entry of a row's softmax. -/
def pr (x : Fin 512 → EReal) (s : Fin 512) : EReal :=
  Ideal.div (Ideal.exp (x s - mx x)) (∑ j : Fin 512, Ideal.exp (x j - mx x))

/-- The word the maximum starts from is the least value. -/
theorem bot_eq : Ideal.ofBits .f32 0xFF800000#32 = (⊥ : EReal) := by
  simp [Ideal.ofBits, Ideal.ieee]

/-- Taking the maximum with it changes nothing. -/
theorem max_mx {n : ℕ} (x : Fin n → EReal) : max (Ideal.ofBits .f32 0xFF800000#32) (mx x) = mx x := by
  rw [bot_eq]; exact bot_sup_eq _

/-- A code, clipped, from a value and a factor. -/
def code (x s : EReal) : EReal := min (Ideal.ofBits .f32 0x43E00000#32) (max (Ideal.ofBits .f32 0xC3E00000#32) (x * s))

end Cert.AttnRow

namespace Cert.AttnRefIdeal.Hand

open Cert.AttnRefIdeal Cert.AttnRefIdeal.Gen Cert.AttnRow

/-- The queries, by row, group, head and column. -/
def rq (X : FVec Ideal S512x3584 .bf16) : FVec Ideal S512x4x5x128 .bf16 :=
  shapeCast S512x4x5x128 (extractStridedSlice S512x2560 ![0, 0] X slices_S512x3584_S512x2560_0_0) shapeCasts_S512x2560_S512x4x5x128

/-- The keys, by row, group and column. -/
def rk (X : FVec Ideal S512x3584 .bf16) : FVec Ideal S512x4x128 .bf16 :=
  shapeCast S512x4x128 (extractStridedSlice S512x512 ![0, 2560] X slices_S512x3584_S512x512_0_2560) shapeCasts_S512x512_S512x4x128

/-- The values, by row, group and column. -/
def rv (X : FVec Ideal S512x3584 .bf16) : FVec Ideal S512x4x128 .bf16 :=
  shapeCast S512x4x128 (extractStridedSlice S512x512 ![0, 3072] X slices_S512x3584_S512x512_0_3072) shapeCasts_S512x512_S512x4x128

/-- The mask: the same segment, and not a later row. -/
def rmask (s : IVec S1x512 32) : IVec S512x512 1 :=
  andi
    (cmpi .eq
      (broadcastInDim S512x512 ![0, 1] bcast_S512x1_S512x512_0_1 (broadcastInDim S512x1 ![0] bcast_S512_S512x1_0 (shapeCast S512 s shapeCasts_S1x512_S512)))
      (broadcastInDim S512x512 ![0, 1] bcast_S1x512_S512x512_0_1 (broadcastInDim S1x512 ![1] bcast_S512_S1x512_1 (shapeCast S512 s shapeCasts_S1x512_S512))))
    (cmpi .sge
      (broadcastInDim S512x512 ![0, 1] bcast_S512x1_S512x512_0_1 (broadcastInDim S512x1 ![0] bcast_S512_S512x1_0 (iotaInDim S512 32 0)))
      (broadcastInDim S512x512 ![0, 1] bcast_S1x512_S512x512_0_1 (broadcastInDim S1x512 ![1] bcast_S512_S1x512_1 (iotaInDim S512 32 0))))

/-- The scaled scores. -/
def rsc (q : FVec Ideal S512x4x5x128 .bf16) (k : FVec Ideal S512x4x128 .bf16) : FVec Ideal S4x5x512x512 .f32 :=
  mulf (transpose S4x5x512x512 [0, 3, 2, 1] (Host.dotGeneral (F := Ideal) dot_S512x4x128_S512x4x5x128_S4x512x512x5_2_3_0_02_1_1 none k q) transposes_S4x512x512x5_S4x5x512x512_0_3_2_1)
    (broadcastInDim S4x5x512x512 ![] bcast_S_S4x5x512x512 (constant (F := Ideal) S_ .f32 0x3DB504F3#32))

/-- The masked scores. -/
def rmsk (M : IVec S512x512 1) (S : FVec Ideal S4x5x512x512 .f32) : FVec Ideal S4x5x512x512 .f32 :=
  select (broadcastInDim S4x5x512x512 ![0, 1, 2, 3] bcast_S1x1x512x512_S4x5x512x512_0_1_2_3 (broadcastInDim S1x1x512x512 ![2, 3] bcast_S512x512_S1x1x512x512_2_3 M))
    S (broadcastInDim S4x5x512x512 ![] bcast_S_S4x5x512x512 (constant (F := Ideal) S_ .f32 0xFF800000#32))

/-- The rows' greatest scores. -/
def rmax0 (X : FVec Ideal S4x5x512x512 .f32) : FVec Ideal S4x5x512 .f32 :=
  Host.reduce FloatOps.maximumf X (constant (F := Ideal) S_ .f32 0xFF800000#32) reducesTo_S4x5x512x512_S4x5x512_d3 h_S_

/-- The same, the maximum taken once more with the word it starts from. -/
def rmax (A : FVec Ideal S4x5x512 .f32) : FVec Ideal S4x5x512 .f32 :=
  maximumf (broadcastInDim S4x5x512 ![] bcast_S_S4x5x512 (constant (F := Ideal) S_ .f32 0xFF800000#32)) A

/-- The exponentials of the scores less their row's greatest. -/
def rexp (X : FVec Ideal S4x5x512x512 .f32) (A : FVec Ideal S4x5x512 .f32) : FVec Ideal S4x5x512x512 .f32 :=
  Host.exp (subf X (broadcastInDim S4x5x512x512 ![0, 1, 2, 3] bcast_S4x5x512x1_S4x5x512x512_0_1_2_3 (broadcastInDim S4x5x512x1 ![0, 1, 2] bcast_S4x5x512_S4x5x512x1_0_1_2 A)))

/-- The exponentials divided by their row's sum. -/
def rdiv (E : FVec Ideal S4x5x512x512 .f32) (A : FVec Ideal S4x5x512 .f32) : FVec Ideal S4x5x512x512 .bf16 :=
  truncf .bf16 (Host.divf E (broadcastInDim S4x5x512x512 ![0, 1, 2, 3] bcast_S4x5x512x1_S4x5x512x512_0_1_2_3 (broadcastInDim S4x5x512x1 ![0, 1, 2] bcast_S4x5x512_S4x5x512x1_0_1_2 A))) bitsLt_bf16_f32

/-- The rows' sums. -/
def rsum (E : FVec Ideal S4x5x512x512 .f32) : FVec Ideal S4x5x512 .f32 :=
  Host.reduceAdd E (constant (F := Ideal) S_ .f32 0x00000000#32) reducesTo_S4x5x512x512_S4x5x512_d3 h_S_

/-- The probabilities. -/
def rprb (X : FVec Ideal S4x5x512x512 .f32) : FVec Ideal S4x5x512x512 .bf16 :=
  rdiv (rexp X (rmax (rmax0 X))) (rsum (rexp X (rmax (rmax0 X))))

/-- The weighted values, as rows. -/
def rout (P : FVec Ideal S4x5x512x512 .bf16) (v : FVec Ideal S512x4x128 .bf16) : FVec Ideal S512x2560 .f32 :=
  shapeCast S512x2560 (transpose S512x4x5x128 [3, 0, 2, 1] (Host.dotGeneral (F := Ideal) dot_S512x4x128_S4x5x512x512_S4x128x5x512_0_3_2_12_1_0 none v P) transposes_S4x128x5x512_S512x4x5x128_3_0_2_1) shapeCasts_S512x4x5x128_S512x2560

/-- The reference's attention. -/
def R (X : FVec Ideal S512x3584 .bf16) (s : IVec S1x512 32) : FVec Ideal S512x2560 .f32 :=
  rout (rprb (rmsk (rmask s) (rsc (rq X) (rk X)))) (rv X)

/-- Column `d` of head `i` of group `g`. -/
def col (g : Fin 4) (i : Fin 5) (d : Fin 128) : Fin 2560 := ⟨g.val * 640 + i.val * 128 + d.val, by omega⟩

theorem rq_at (X : FVec Ideal S512x3584 .bf16) (r : Fin 512) (g : Fin 4) (i : Fin 5) (d : Fin 128) :
    rq X (ix4 r g i d) = X (ix2 r (⟨g.val * 640 + i.val * 128 + d.val, by omega⟩ : Fin 3584)) := by
  pointwise [rq]
  blk_ext

theorem rk_at (X : FVec Ideal S512x3584 .bf16) (r : Fin 512) (g : Fin 4) (d : Fin 128) :
    rk X (ix3 r g d) = X (ix2 r (⟨2560 + g.val * 128 + d.val, by omega⟩ : Fin 3584)) := by
  pointwise [rk]
  blk_ext

theorem rv_at (X : FVec Ideal S512x3584 .bf16) (r : Fin 512) (g : Fin 4) (d : Fin 128) :
    rv X (ix3 r g d) = X (ix2 r (⟨3072 + g.val * 128 + d.val, by omega⟩ : Fin 3584)) := by
  pointwise [rv]
  blk_ext

theorem rsc_at (q : FVec Ideal S512x4x5x128 .bf16) (k : FVec Ideal S512x4x128 .bf16) (g : Fin 4) (i : Fin 5) (r s : Fin 512) :
    rsc q k (ix4 g i r s) = (∑ d : Fin 128, k (ix3 s g d) * q (ix4 r g i d)) * Ideal.ofBits .f32 0x3DB504F3#32 := by
  pointwise [rsc]

/-- The mask as a truth value. -/
def mk (a b : BitVec 32) (r s : Fin 512) : BitVec 1 :=
  IntOp.andi (IntOp.cmpi .eq a b) (IntOp.cmpi .sge (BitVec.ofNat 32 r.val) (BitVec.ofNat 32 s.val))

theorem rmask_at (x : IVec S1x512 32) (r s : Fin 512) : rmask x (ix2 r s) = mk (x (ix2 0 r)) (x (ix2 0 s)) r s := by
  pointwise [rmask]
  rfl

theorem rmsk_at (M : IVec S512x512 1) (S : FVec Ideal S4x5x512x512 .f32) (g : Fin 4) (i : Fin 5) (r s : Fin 512) :
    rmsk M S (ix4 g i r s) = if M (ix2 r s) = 1#1 then S (ix4 g i r s) else Ideal.ofBits .f32 0xFF800000#32 := by
  pointwise [rmsk]
  rfl

theorem rmax0_at (X : FVec Ideal S4x5x512x512 .f32) (g : Fin 4) (i : Fin 5) (r : Fin 512) :
    rmax0 X (ix3 g i r) = mx fun j : Fin 512 => X (ix4 g i r j) := by
  unfold mx rmax0
  pointwise []

theorem rmax_at (A : FVec Ideal S4x5x512 .f32) (g : Fin 4) (i : Fin 5) (r : Fin 512) :
    rmax A (ix3 g i r) = max (Ideal.ofBits .f32 0xFF800000#32) (A (ix3 g i r)) := by
  pointwise [rmax]

theorem rmax_mx (X : FVec Ideal S4x5x512x512 .f32) (g : Fin 4) (i : Fin 5) (r : Fin 512) :
    rmax (rmax0 X) (ix3 g i r) = mx fun j : Fin 512 => X (ix4 g i r j) := by
  rw [rmax_at, rmax0_at, max_mx]

theorem rexp_at (X : FVec Ideal S4x5x512x512 .f32) (A : FVec Ideal S4x5x512 .f32) (g : Fin 4) (i : Fin 5) (r s : Fin 512) :
    rexp X A (ix4 g i r s) = Ideal.exp (X (ix4 g i r s) - A (ix3 g i r)) := by
  pointwise [rexp]

theorem rdiv_at (E : FVec Ideal S4x5x512x512 .f32) (A : FVec Ideal S4x5x512 .f32) (g : Fin 4) (i : Fin 5) (r s : Fin 512) :
    rdiv E A (ix4 g i r s) = Ideal.div (E (ix4 g i r s)) (A (ix3 g i r)) := by
  pointwise [rdiv]

theorem rsum_at (E : FVec Ideal S4x5x512x512 .f32) (g : Fin 4) (i : Fin 5) (r : Fin 512) :
    rsum E (ix3 g i r) = ∑ j : Fin 512, E (ix4 g i r j) := by
  pointwise [rsum]

/-- A probability is an entry of its row's softmax. -/
theorem rprb_at (X : FVec Ideal S4x5x512x512 .f32) (g : Fin 4) (i : Fin 5) (r s : Fin 512) :
    rprb X (ix4 g i r s) = pr (fun j : Fin 512 => X (ix4 g i r j)) s := by
  have h : ∀ j : Fin 512, rexp X (rmax (rmax0 X)) (ix4 g i r j) = Ideal.exp (X (ix4 g i r j) - mx fun j : Fin 512 => X (ix4 g i r j)) := fun j =>
    (rexp_at X (rmax (rmax0 X)) g i r j).trans (congrArg (fun z => Ideal.exp (X (ix4 g i r j) - z)) (rmax_mx X g i r))
  unfold rprb pr
  refine (rdiv_at _ _ g i r s).trans (congrArg₂ Ideal.div (h s) ((rsum_at _ g i r).trans ?_))
  exact Finset.sum_congr rfl fun j _ => h j

theorem rout_at (P : FVec Ideal S4x5x512x512 .bf16) (v : FVec Ideal S512x4x128 .bf16) (r : Fin 512) (g : Fin 4) (i : Fin 5) (d : Fin 128) :
    rout P v (ix2 r (col g i d)) = ∑ s : Fin 512, v (ix3 s g d) * P (ix4 g i r s) := by
  have hg := g.isLt; have hi := i.isLt; have hd := d.isLt
  have e1 : ∀ h, (⟨(col g i d).val / 640, h⟩ : Fin 4) = g := fun h => Fin.ext (by show (g.val * 640 + i.val * 128 + d.val) / 640 = g.val; omega)
  have e2 : ∀ h, (⟨(col g i d).val / 128 % 5, h⟩ : Fin 5) = i := fun h => Fin.ext (by show (g.val * 640 + i.val * 128 + d.val) / 128 % 5 = i.val; omega)
  have e3 : ∀ h, (⟨(col g i d).val % 128, h⟩ : Fin 128) = d := fun h => Fin.ext (by show (g.val * 640 + i.val * 128 + d.val) % 128 = d.val; omega)
  pointwise [rout]
  simp only [e1, e2, e3]

/-- A masked score, from the columns of the queries, keys and the segments. -/
def score (X : FVec Ideal S512x3584 .bf16) (x : IVec S1x512 32) (g : Fin 4) (i : Fin 5) (r s : Fin 512) : EReal :=
  if mk (x (ix2 0 r)) (x (ix2 0 s)) r s = 1#1 then
    (∑ d : Fin 128, X (ix2 r (⟨g.val * 640 + i.val * 128 + d.val, by omega⟩ : Fin 3584)) * X (ix2 s (⟨2560 + g.val * 128 + d.val, by omega⟩ : Fin 3584)))
      * Ideal.ofBits .f32 0x3DB504F3#32
  else Ideal.ofBits .f32 0xFF800000#32

/-- The reference's attention at column `d` of head `i` of group `g`. -/
theorem R_at (X : FVec Ideal S512x3584 .bf16) (x : IVec S1x512 32) (r : Fin 512) (g : Fin 4) (i : Fin 5) (d : Fin 128) :
    R X x (ix2 r (col g i d)) = ∑ s : Fin 512, pr (score X x g i r) s * X (ix2 s (⟨3072 + g.val * 128 + d.val, by omega⟩ : Fin 3584)) := by
  have h : ∀ s : Fin 512, rmsk (rmask x) (rsc (rq X) (rk X)) (ix4 g i r s) = score X x g i r s := fun s => by
    refine (rmsk_at _ _ g i r s).trans ?_
    rw [rmask_at, rsc_at]
    unfold score
    simp only [rq_at, rk_at, mul_comm]
  unfold R
  refine (rout_at _ _ r g i d).trans (Finset.sum_congr rfl fun s _ => ?_)
  refine (mul_comm _ _).trans (congrArg₂ (· * ·) ((rprb_at _ g i r s).trans ?_) (rv_at X s g d))
  exact congrArg (fun f => pr f s) (funext h)

variable (m : (ℓ : Loc nD τ sig) → Buf (Elt Ideal) ℓ)

set_option maxHeartbeats 2000000 in
/-- The array the reference's quantiser reads. -/
theorem V40 (c : Dev nD) : (V m c main_v40 : FVec Ideal S512x2560 .f32) = R (m ((c : Thread nD τ).loc main_arg0)) (m ((c : Thread nD τ).loc main_arg1)) := by
  unfold V
  simp only [hostOps0, hostOps0_1, hostOps0_2, List.flatten_cons, List.flatten_nil, List.append_nil, List.cons_append, List.nil_append]
  entry_read
  rfl

/-! ## The quantiser -/

/-- The reference's exponents from the maxima. -/
def rE (v3 : FVec Ideal S512x1 .f32) : FVec Ideal S512x1 .f32 :=
  have cst_1 : Ideal .f32 := Scalar.ofBits .f32 0x3B124925#32
  have v4 : FVec Ideal S512x1 .f32 := broadcast S512x1 cst_1
  have v5 : FVec Ideal S512x1 .f32 := mulf v3 v4
  have cst_2 : Ideal .f32 := Scalar.ofBits .f32 0x00800000#32
  have v6 : FVec Ideal S512x1 .f32 := broadcast S512x1 cst_2
  have v7 : IVec S512x1 1 := cmpf .oge v5 v6
  have cst_3 : Ideal .f32 := Scalar.ofBits .f32 0x7F800000#32
  have v8 : FVec Ideal S512x1 .f32 := broadcast S512x1 cst_3
  have v9 : IVec S512x1 1 := cmpf .olt v5 v8
  have v10 : IVec S512x1 1 := andi v7 v9
  have v11 : FVec Ideal S512x1 .f32 := log v5
  have cst_4 : Ideal .f32 := Scalar.ofBits .f32 0x40000000#32
  have v12 : FVec Ideal S512x1 .f32 := broadcast S512x1 cst_4
  have v13 : FVec Ideal S512x1 .f32 := log v12
  have v14 : FVec Ideal S512x1 .f32 := divf v11 v13
  have v15 : FVec Ideal S512x1 .f32 := floor v14
  have cst_5 : Ideal .f32 := Scalar.ofBits .f32 0x3F800000#32
  have v16 : FVec Ideal S512x1 .f32 := broadcast S512x1 cst_5
  have v17 : FVec Ideal S512x1 .f32 := addf v15 v16
  have cst_6 : Ideal .f32 := Scalar.ofBits .f32 0x00000000#32
  have v18 : FVec Ideal S512x1 .f32 := broadcast S512x1 cst_6
  have v19 : FVec Ideal S512x1 .f32 := select v10 v17 v18
  have cst_7 : Ideal .f32 := Scalar.ofBits .f32 0x00000000#32
  have v20 : FVec Ideal S512x1 .f32 := broadcast S512x1 cst_7
  have v21 : IVec S512x1 1 := cmpf .oeq v3 v20
  have cst_8 : Ideal .f32 := Scalar.ofBits .f32 0x00000000#32
  have v22 : FVec Ideal S512x1 .f32 := broadcast S512x1 cst_8
  have v23 : FVec Ideal S512x1 .f32 := select v21 v22 v19
  v23

/-- The reference's codes from the exponents. -/
def rC (E : FVec Ideal S512x1 .f32) (v0 : FVec Ideal S512x2560 .f32) : FVec Ideal S512x2560 .f32 :=
  have cst_9 : Ideal .f32 := Scalar.ofBits .f32 0x00000000#32
  have v24 : FVec Ideal S512x1 .f32 := broadcast S512x1 cst_9
  have v25 : FVec Ideal S512x1 .f32 := subf v24 E
  have cst_10 : Ideal .f32 := Scalar.ofBits .f32 0xC2FC0000#32
  have v26 : FVec Ideal S512x1 .f32 := broadcast S512x1 cst_10
  have v27 : IVec S512x1 1 := cmpf .olt v25 v26
  have cst_11 : Ideal .f32 := Scalar.ofBits .f32 0x42FE0000#32
  have v28 : FVec Ideal S512x1 .f32 := broadcast S512x1 cst_11
  have v29 : IVec S512x1 1 := cmpf .ogt v25 v28
  have v30 : FVec Ideal S512x1 .f32 := exp2 v25
  have cst_12 : Ideal .f32 := Scalar.ofBits .f32 0x7F800000#32
  have v31 : FVec Ideal S512x1 .f32 := broadcast S512x1 cst_12
  have v32 : FVec Ideal S512x1 .f32 := select v29 v31 v30
  have cst_13 : Ideal .f32 := Scalar.ofBits .f32 0x00000000#32
  have v33 : FVec Ideal S512x1 .f32 := broadcast S512x1 cst_13
  have v34 : FVec Ideal S512x1 .f32 := select v27 v33 v32
  have v35 : FVec Ideal S512x2560 .f32 := broadcastTo S512x2560 v34 broadcasts_S512x1_S512x2560
  have v36 : FVec Ideal S512x2560 .f32 := mulf v0 v35
  have cst_14 : Ideal .f32 := Scalar.ofBits .f32 0xC3E00000#32
  have cst_15 : Ideal .f32 := Scalar.ofBits .f32 0x43E00000#32
  have v37 : FVec Ideal S512x2560 .f32 := broadcast S512x2560 cst_14
  have v38 : FVec Ideal S512x2560 .f32 := maximumf v37 v36
  have v39 : FVec Ideal S512x2560 .f32 := broadcast S512x2560 cst_15
  have v40 : FVec Ideal S512x2560 .f32 := minimumf v39 v38
  v40

/-- The rows' maxima of absolute values. -/
def amax (v : FVec Ideal S512x2560 .f32) : FVec Ideal S512x1 .f32 :=
  shapeCast S512x1 (multiReduction (F := Ideal) .maximumf [1] S512 (absf v) 0xFF800000#32 reduces_S512x2560_S512 (.inl rfl) rfl) shapeCasts_S512_S512x1

theorem pay3_eq (v : FVec Ideal S512x2560 .f32) : k0_pay3 (F := Ideal) v = v := by
  funext y
  idx_vars y
  pointwise [k0_pay3]

theorem pay4_eq (v : FVec Ideal S512x2560 .f32) : k0_pay4 (F := Ideal) v = rE (amax (k0_pay3 (F := Ideal) v)) := rfl
theorem pay5_eq (v : FVec Ideal S512x2560 .f32) : k0_pay5 (F := Ideal) v = rC (k0_pay4 (F := Ideal) v) (k0_pay3 (F := Ideal) v) := rfl

theorem amax_at (v : FVec Ideal S512x2560 .f32) (r : Fin 512) :
    amax v (ix2 r 0) = mx fun j : Fin 2560 => (FloatOps.absf (F := Ideal) (φ := .f32) (v (ix2 r j)) : EReal) := by
  unfold mx
  pointwise [amax]

theorem rE_at (A : FVec Ideal S512x1 .f32) (r : Fin 512) : rE A (ix2 r 0) = Cert.Quant.rexp (A (ix2 r 0)) := by
  pointwise [rE]
  rfl

theorem rS_at (E : FVec Ideal S512x1 .f32) (r : Fin 512) : k0_pay2 (F := Ideal) E (ix2 r 0) = Cert.Quant.rscale (E (ix2 r 0)) := by
  pointwise [k0_pay2]
  rfl

theorem rC_at (E : FVec Ideal S512x1 .f32) (v : FVec Ideal S512x2560 .f32) (r : Fin 512) (j : Fin 2560) :
    k0_pay1 (F := Ideal) (rC E v) (ix2 r j) = code (v (ix2 r j)) (Cert.Quant.rscale (0 - E (ix2 r 0))) := by
  pointwise [k0_pay1, rC]
  rfl

/-- The exponent of a row of the array. -/
def ex (v : FVec Ideal S512x2560 .f32) (r : Fin 512) : EReal :=
  Cert.Quant.rexp (mx fun j : Fin 2560 => (FloatOps.absf (F := Ideal) (φ := .f32) (v (ix2 r j)) : EReal))

theorem ex_at (v : FVec Ideal S512x2560 .f32) (r : Fin 512) : k0_pay4 (F := Ideal) v (ix2 r 0) = ex v r := by
  rw [pay4_eq, pay3_eq]
  exact (rE_at _ r).trans (congrArg _ (amax_at v r))

/-- The codes of an array. -/
theorem codes_at (v : FVec Ideal S512x2560 .f32) (r : Fin 512) (j : Fin 2560) :
    k0_pay1 (F := Ideal) (k0_pay5 (F := Ideal) v) (ix2 r j) = code (v (ix2 r j)) (Cert.Quant.rscale (0 - ex v r)) := by
  rw [pay5_eq, pay3_eq]
  exact (rC_at _ v r j).trans (congrArg (fun z => code (v (ix2 r j)) (Cert.Quant.rscale (0 - z))) (ex_at v r))

/-- The scales of an array. -/
theorem scales_at (v : FVec Ideal S512x2560 .f32) (r : Fin 512) :
    k0_pay2 (F := Ideal) (k0_pay4 (F := Ideal) v) (ix2 r 0) = Cert.Quant.rscale (ex v r) :=
  (rS_at _ r).trans (congrArg _ (ex_at v r))

/-- Each block is its whole array. -/
theorem idx : ∀ t : Fin cfg0.N, win0_0.index t = ![0, 0] ∧ win0_1.index t = ![0, 0] ∧ win0_2.index t = ![0, 0] :=
  (by decide +kernel : ∀ t : Fin grid0.N, _)

/-- The block the quantiser reads is the attention of the arguments. -/
theorem iblk0 (c : Dev nD) : (show FVec Ideal S512x2560 .f32 from iblk m c 0 t0_0)
    = R (m ((c : Thread nD τ).loc main_arg0)) (m ((c : Thread nD τ).loc main_arg1)) := by
  refine Eq.trans ?_ (V40 m c)
  funext y
  blk_simp [iblk]
  refine congrArg (V m c main_v40) ?_
  blk_ext [idx t0_0]

/-- The reference's codes after its run. -/
theorem final1 (c : Dev nD) : (dats m 0 c).arrAt 1 (cfgs 0).N
    = k0_pay1 (F := Ideal) (k0_pay5 (F := Ideal) (R (m ((c : Thread nD τ).loc main_arg0)) (m ((c : Thread nD τ).loc main_arg1)))) := by
  refine (dats m 0 c).arrAt_eq_of_after_last 1 t0_0 (by decide +kernel) _ fun j => ?_
  blk_simp
  rw [after0_1]; unfold out0_1; frame_out
  exact congrArg (fun v => k0_pay1 (F := Ideal) (k0_pay5 (F := Ideal) v) j) (iblk0 m c)

/-- The reference's scales after its run. -/
theorem final2 (c : Dev nD) : (dats m 0 c).arrAt 2 (cfgs 0).N
    = k0_pay2 (F := Ideal) (k0_pay4 (F := Ideal) (R (m ((c : Thread nD τ).loc main_arg0)) (m ((c : Thread nD τ).loc main_arg1)))) := by
  refine (dats m 0 c).arrAt_eq_of_after_last 2 t0_0 (by decide +kernel) _ fun j => ?_
  blk_simp
  rw [after0_2]; unfold out0_2; frame_out
  exact congrArg (fun v => k0_pay2 (F := Ideal) (k0_pay4 (F := Ideal) v) j) (iblk0 m c)

end Cert.AttnRefIdeal.Hand

end
-- ==== Proof.AttnHead.lean ====
/-
  The attention call's arithmetic at the ideal instance, entry by entry: a head, and the quantiser of the four slices.
-/
module

public import proofs.«01_k».proof.Defs
public import proofs.«01_k».proof.Proof.AttnIdealFrame
public import proofs.«01_k».proof.Proof.AttnRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Hand

open Cert.AttnIdeal Cert.AttnIdeal.Gen Cert.AttnRow

/-! ## A head -/

/-- The scaled scores of a head. -/
def sco (q k : FVec Ideal S512x128 .bf16) : FVec Ideal S512x512 .f32 :=
  mulf (matmul dot_S512x128_S512x128_S512x512_1_1_0_0_n_n none q k (constant S512x512 .f32 0x00000000#32)) (broadcast S512x512 (Scalar.ofBits .f32 0x3DB504F3#32 : Ideal .f32))

/-- The masked scores. -/
def msk (M : IVec S512x512 1) (S : FVec Ideal S512x512 .f32) : FVec Ideal S512x512 .f32 :=
  select M S (broadcast S512x512 (Scalar.ofBits .f32 0xFF800000#32 : Ideal .f32))

/-- The rows' greatest scores. -/
def kmax (X : FVec Ideal S512x512 .f32) : FVec Ideal S512x1 .f32 :=
  shapeCast S512x1 (multiReduction (F := Ideal) .maximumf [1] S512 X 0xFF800000#32 reduces_S512x512_S512 (.inl rfl) rfl) shapeCasts_S512_S512x1

/-- The exponentials of the scores less a column. -/
def kexp (X : FVec Ideal S512x512 .f32) (A : FVec Ideal S512x1 .f32) : FVec Ideal S512x512 .f32 :=
  exp (subf X (broadcastTo S512x512 A broadcasts_S512x1_S512x512))

/-- The rows' sums. -/
def ksum (E : FVec Ideal S512x512 .f32) : FVec Ideal S512x1 .f32 :=
  shapeCast S512x1 (multiReduction (F := Ideal) .add [1] S512 E 0x00000000#32 reduces_S512x512_S512 (.inl rfl) rfl) shapeCasts_S512_S512x1

/-- The exponentials divided by a column. -/
def kdiv (E : FVec Ideal S512x512 .f32) (A : FVec Ideal S512x1 .f32) : FVec Ideal S512x512 .bf16 :=
  truncf .bf16 (divf E (broadcastTo S512x512 A broadcasts_S512x1_S512x512)) bitsLt_bf16_f32

/-- The probabilities. -/
def kprb (X : FVec Ideal S512x512 .f32) : FVec Ideal S512x512 .bf16 := kdiv (kexp X (kmax X)) (ksum (kexp X (kmax X)))

/-- The weighted values. -/
def kpv (P : FVec Ideal S512x512 .bf16) (v : FVec Ideal S512x128 .bf16) : FVec Ideal S1x512x128 .f32 :=
  shapeCast S1x512x128 (matmul dot_S512x512_S512x128_S512x128_1_0_0_1_n_n none P v (constant S512x128 .f32 0x00000000#32)) shapeCasts_S512x128_S1x512x128

/-- What a head stores. -/
def hd (M : IVec S512x512 1) (k v q : FVec Ideal S512x128 .bf16) : FVec Ideal S1x512x128 .f32 := kpv (kprb (msk M (sco q k))) v

theorem hd0_eq (a : IVec S512x1 32) (b : IVec S1x512 32) (k v q : FVec Ideal S512x128 .bf16) : k0_pay13 (F := Ideal) a b k v q = hd (k0_pay12 (F := Ideal) a b) k v q := rfl
theorem hd1_eq (M : IVec S512x512 1) (k v q : FVec Ideal S512x128 .bf16) : k0_pay16 (F := Ideal) M v (k0_pay14 (F := Ideal) k q) (k0_pay15 (F := Ideal)) = hd M k v q := rfl
theorem hd2_eq (M : IVec S512x512 1) (k v q : FVec Ideal S512x128 .bf16) : k0_pay17 (F := Ideal) M k v q = hd M k v q := rfl
theorem hd3_eq (M : IVec S512x512 1) (k v q : FVec Ideal S512x128 .bf16) : k0_pay18 (F := Ideal) M k v q = hd M k v q := rfl
theorem hd4_eq (M : IVec S512x512 1) (k v q : FVec Ideal S512x128 .bf16) : k0_pay19 (F := Ideal) M k v q = hd M k v q := rfl

theorem mask_at (a : IVec S512x1 32) (b : IVec S1x512 32) (r s : Fin 512) : k0_pay12 (F := Ideal) a b (ix2 r s) = Cert.AttnRefIdeal.Hand.mk (a (ix2 r 0)) (b (ix2 0 s)) r s := by
  pointwise [k0_pay12]
  rfl

theorem sco_at (q k : FVec Ideal S512x128 .bf16) (r s : Fin 512) :
    sco q k (ix2 r s) = (∑ d : Fin 128, q (ix2 r d) * k (ix2 s d)) * Ideal.ofBits .f32 0x3DB504F3#32 := by
  pointwise [sco]

theorem msk_at (M : IVec S512x512 1) (S : FVec Ideal S512x512 .f32) (r s : Fin 512) :
    msk M S (ix2 r s) = if M (ix2 r s) = 1#1 then S (ix2 r s) else Ideal.ofBits .f32 0xFF800000#32 := by
  pointwise [msk]
  rfl

theorem kmax_at (X : FVec Ideal S512x512 .f32) (r : Fin 512) : kmax X (ix2 r 0) = mx fun j : Fin 512 => X (ix2 r j) := by
  unfold mx
  pointwise [kmax]

theorem kexp_at (X : FVec Ideal S512x512 .f32) (A : FVec Ideal S512x1 .f32) (r s : Fin 512) :
    kexp X A (ix2 r s) = Ideal.exp (X (ix2 r s) - A (ix2 r 0)) := by
  pointwise [kexp]

theorem ksum_at (E : FVec Ideal S512x512 .f32) (r : Fin 512) : ksum E (ix2 r 0) = ∑ j : Fin 512, E (ix2 r j) := by
  pointwise [ksum]

theorem kdiv_at (E : FVec Ideal S512x512 .f32) (A : FVec Ideal S512x1 .f32) (r s : Fin 512) :
    kdiv E A (ix2 r s) = Ideal.div (E (ix2 r s)) (A (ix2 r 0)) := by
  pointwise [kdiv]

theorem kpv_at (P : FVec Ideal S512x512 .bf16) (v : FVec Ideal S512x128 .bf16) (r : Fin 512) (d : Fin 128) :
    kpv P v (ix3 0 r d) = ∑ s : Fin 512, P (ix2 r s) * v (ix2 s d) := by
  pointwise [kpv]

/-- A probability is an entry of its row's softmax. -/
theorem kprb_at (X : FVec Ideal S512x512 .f32) (r s : Fin 512) : kprb X (ix2 r s) = pr (fun j : Fin 512 => X (ix2 r j)) s := by
  have h : ∀ j : Fin 512, kexp X (kmax X) (ix2 r j) = Ideal.exp (X (ix2 r j) - mx fun j : Fin 512 => X (ix2 r j)) := fun j =>
    (kexp_at X (kmax X) r j).trans (congrArg (fun z => Ideal.exp (X (ix2 r j) - z)) (kmax_at X r))
  unfold kprb pr
  refine (kdiv_at _ _ r s).trans (congrArg₂ Ideal.div (h s) ((ksum_at _ r).trans ?_))
  exact Finset.sum_congr rfl fun j _ => h j

/-- A head's result, its operands' entries being those of the arrays. -/
theorem hd_at (X : FVec Ideal S512x3584 .bf16) (x : IVec S1x512 32) (a : IVec S512x1 32) (b : IVec S1x512 32) (k v q : FVec Ideal S512x128 .bf16)
    (g : Fin 4) (i : Fin 5)
    (ha : ∀ r : Fin 512, a (ix2 r 0) = x (ix2 0 r)) (hb : ∀ r : Fin 512, b (ix2 0 r) = x (ix2 0 r))
    (hk : ∀ (r : Fin 512) (d : Fin 128), k (ix2 r d) = X (ix2 r (⟨2560 + g.val * 128 + d.val, by omega⟩ : Fin 3584)))
    (hv : ∀ (r : Fin 512) (d : Fin 128), v (ix2 r d) = X (ix2 r (⟨3072 + g.val * 128 + d.val, by omega⟩ : Fin 3584)))
    (hq : ∀ (r : Fin 512) (d : Fin 128), q (ix2 r d) = X (ix2 r (⟨g.val * 640 + i.val * 128 + d.val, by omega⟩ : Fin 3584)))
    (r : Fin 512) (d : Fin 128) :
    hd (k0_pay12 (F := Ideal) a b) k v q (ix3 0 r d) = Cert.AttnRefIdeal.Hand.R X x (ix2 r (Cert.AttnRefIdeal.Hand.col g i d)) := by
  refine Eq.trans ?_ (Cert.AttnRefIdeal.Hand.R_at X x r g i d).symm
  have h : ∀ s : Fin 512, msk (k0_pay12 (F := Ideal) a b) (sco q k) (ix2 r s) = Cert.AttnRefIdeal.Hand.score X x g i r s := fun s => by
    refine (msk_at _ _ r s).trans ?_
    rw [mask_at, sco_at]
    unfold Cert.AttnRefIdeal.Hand.score
    simp only [ha, hb, hk, hq]
  unfold hd
  refine (kpv_at _ _ r d).trans (Finset.sum_congr rfl fun s _ => ?_)
  refine congrArg₂ (· * ·) ((kprb_at _ r s).trans ?_) (hv s d)
  exact congrArg (fun f => pr f s) (funext h)

/-! ## The quantiser -/

/-- The kernel's exponents from the maxima. -/
def kE (v33 : FVec Ideal S512x1 .f32) : IVec S512x1 32 :=
  have cst_24 : Ideal .f32 := Scalar.ofBits .f32 0x3B124925#32
  have v34 : FVec Ideal S512x1 .f32 := broadcast S512x1 cst_24
  have v35 : FVec Ideal S512x1 .f32 := mulf v33 v34
  have v36 : IVec S512x256 32 := iota .tc S512x256 32 [1] iota_S512x256_d1_w32
  have v37 : IVec S512x256 32 := broadcast S512x256 0#32
  have v38 : IVec S512x256 1 := cmpi .sgt v36 v37
  have v39 : IVec S512x256 32 := broadcast S512x256 23#32
  have v40 : IVec S512x256 32 := shli v36 v39
  have v41 : FVec Ideal S512x256 .f32 := bitcastToFloat .f32 v40
  have v42 : FVec Ideal S512x256 .f32 := broadcastTo S512x256 v35 broadcasts_S512x1_S512x256
  have v43 : IVec S512x256 1 := cmpf .oge v42 v41
  have v44 : IVec S512x256 1 := andi v38 v43
  have v45 : IVec S512x256 32 := extui 32 v44 natLt_1_32
  have v46 : IVec S512 32 := multiReductionI .add [1] S512 v45 0#32 reduces_S512x256_S512 rfl
  have v47 : IVec S512x1 32 := shapeCast S512x1 v46 shapeCasts_S512_S512x1
  have v48 : IVec S512x1 32 := broadcast S512x1 0#32
  have v49 : IVec S512x1 1 := cmpi .eq v47 v48
  have v50 : IVec S512x1 32 := broadcast S512x1 255#32
  have v51 : IVec S512x1 1 := cmpi .eq v47 v50
  have v52 : IVec S512x1 1 := ori v49 v51
  have cst_28 : Ideal .f32 := Scalar.ofBits .f32 0x00000000#32
  have v53 : FVec Ideal S512x1 .f32 := broadcast S512x1 cst_28
  have v54 : IVec S512x1 1 := cmpf .oeq v33 v53
  have v55 : IVec S512x1 1 := ori v52 v54
  have v56 : IVec S512x1 32 := broadcast S512x1 126#32
  have v57 : IVec S512x1 32 := subi v47 v56
  have v58 : IVec S512x1 32 := broadcast S512x1 0#32
  have v59 : IVec S512x1 32 := select v55 v58 v57
  v59

/-- The kernel's scales from the exponents. -/
def kS (e : IVec S512x1 32) : IVec S512x1 32 :=
  have v60 : IVec S512x1 32 := broadcast S512x1 127#32
  have v61 : IVec S512x1 32 := addi e v60
  have v62 : IVec S512x1 32 := broadcast S512x1 0#32
  have v63 : IVec S512x1 1 := cmpi .sle v61 v62
  have v64 : IVec S512x1 32 := broadcast S512x1 255#32
  have v65 : IVec S512x1 1 := cmpi .sge v61 v64
  have v66 : IVec S512x1 32 := broadcast S512x1 23#32
  have v67 : IVec S512x1 32 := shli v61 v66
  have v68 : IVec S512x1 32 := broadcast S512x1 2139095040#32
  have v69 : IVec S512x1 32 := select v65 v68 v67
  have v70 : IVec S512x1 32 := broadcast S512x1 0#32
  have v71 : IVec S512x1 32 := select v63 v70 v69
  v71

theorem pay5_eq (a b c d : FVec Ideal S1x512x640 .f32) :
    k0_pay5 (F := Ideal) (k0_pay2 (F := Ideal) a b c d) (k0_pay3 (F := Ideal) a b c d) (k0_pay4 (F := Ideal) a b c d) = kE (k0_pay2 (F := Ideal) a b c d) := rfl
theorem pay6_eq (A : FVec Ideal S512x1 .f32) (n : IVec S512x1 32) (z : IVec S512x1 1) :
    k0_pay6 (F := Ideal) A n z = bitcastToFloat .f32 (kS (k0_pay5 (F := Ideal) A n z)) := rfl
theorem pay7_eq (A : FVec Ideal S512x1 .f32) (n : IVec S512x1 32) (z : IVec S512x1 1) :
    k0_pay7 (F := Ideal) A n z = bitcastToFloat .f32 (kS (subi (broadcast S512x1 0#32) (k0_pay5 (F := Ideal) A n z))) := rfl

theorem kE_at (A : FVec Ideal S512x1 .f32) (r : Fin 512) : kE A (ix2 r 0) = Cert.Quant.kexp (A (ix2 r 0)) := by
  pointwise [kE]
  rfl

theorem kS_at (e : IVec S512x1 32) (r : Fin 512) : (bitcastToFloat (F := Ideal) .f32 (kS e) : FVec Ideal S512x1 .f32) (ix2 r 0) = Cert.Quant.kscale (e (ix2 r 0)) := by
  pointwise [kS]
  rfl

theorem sub_at (e : IVec S512x1 32) (r : Fin 512) : subi (broadcast S512x1 0#32) e (ix2 r 0) = IntOp.subi 0#32 (e (ix2 r 0)) := rfl

/-- A slice's row's greatest absolute value. -/
def ab (a : FVec Ideal S1x512x640 .f32) (r : Fin 512) : EReal := mx fun j : Fin 640 => (FloatOps.absf (F := Ideal) (φ := .f32) (a (ix3 0 r j)) : EReal)

/-- A slice's rows' greatest absolute values. -/
def am (a : FVec Ideal S1x512x640 .f32) : FVec Ideal S512x1 .f32 :=
  shapeCast S512x1 (multiReduction (F := Ideal) .maximumf [1] S512 (absf (shapeCast S512x640 a shapeCasts_S1x512x640_S512x640)) 0xFF800000#32 reduces_S512x640_S512 (.inl rfl) rfl) shapeCasts_S512_S512x1

theorem am_at (a : FVec Ideal S1x512x640 .f32) (r : Fin 512) : am a (ix2 r 0) = ab a r := by
  unfold ab mx
  pointwise [am]

theorem pay2_eq (a b c d : FVec Ideal S1x512x640 .f32) : k0_pay2 (F := Ideal) a b c d = maximumf (maximumf (maximumf (am a) (am b)) (am c)) (am d) := rfl

theorem max_at (A B : FVec Ideal S512x1 .f32) (r : Fin 512) : maximumf A B (ix2 r 0) = max (A (ix2 r 0)) (B (ix2 r 0)) := rfl

theorem pay2_at (a b c d : FVec Ideal S1x512x640 .f32) (r : Fin 512) :
    k0_pay2 (F := Ideal) a b c d (ix2 r 0) = max (max (max (ab a r) (ab b r)) (ab c r)) (ab d r) := by
  rw [pay2_eq, max_at, max_at, max_at, am_at, am_at, am_at, am_at]

theorem pay8_at (A : FVec Ideal S512x1 .f32) (a : FVec Ideal S1x512x640 .f32) (r : Fin 512) (j : Fin 640) :
    k0_pay8 (F := Ideal) A a (ix2 r j) = code (a (ix3 0 r j)) (A (ix2 r 0)) := by
  pointwise [k0_pay8]
  rfl
theorem pay9_at (A : FVec Ideal S512x1 .f32) (a : FVec Ideal S1x512x640 .f32) (r : Fin 512) (j : Fin 640) :
    k0_pay9 (F := Ideal) A a (ix2 r j) = code (a (ix3 0 r j)) (A (ix2 r 0)) := by
  pointwise [k0_pay9]
  rfl
theorem pay10_at (A : FVec Ideal S512x1 .f32) (a : FVec Ideal S1x512x640 .f32) (r : Fin 512) (j : Fin 640) :
    k0_pay10 (F := Ideal) A a (ix2 r j) = code (a (ix3 0 r j)) (A (ix2 r 0)) := by
  pointwise [k0_pay10]
  rfl
theorem pay11_at (A : FVec Ideal S512x1 .f32) (a : FVec Ideal S1x512x640 .f32) (r : Fin 512) (j : Fin 640) :
    k0_pay1 (F := Ideal) (k0_pay11 (F := Ideal) A a) (ix2 r j) = code (a (ix3 0 r j)) (A (ix2 r 0)) := by
  pointwise [k0_pay1, k0_pay11]
  rfl

/-- The greatest of four groups of 640 columns is the greatest of the 2560. -/
theorem mx_split (f : Fin 2560 → EReal) (h0 h1 h2 h3 : Fin 640 → EReal)
    (e0 : ∀ j : Fin 640, h0 j = f ⟨0 + j.val, by omega⟩) (e1 : ∀ j : Fin 640, h1 j = f ⟨640 + j.val, by omega⟩)
    (e2 : ∀ j : Fin 640, h2 j = f ⟨1280 + j.val, by omega⟩) (e3 : ∀ j : Fin 640, h3 j = f ⟨1920 + j.val, by omega⟩) :
    max (max (max (mx h0) (mx h1)) (mx h2)) (mx h3) = mx f := by
  have le : ∀ (n : ℕ) (x : Fin n → EReal) (c : EReal), mx x ≤ c ↔ ∀ j, x j ≤ c := fun n x c => by
    unfold mx
    rw [Finset.fold_max_le, bot_eq]
    simp
  refine eq_of_forall_ge_iff fun c => ?_
  rw [max_le_iff, max_le_iff, max_le_iff, le, le, le, le, le]
  constructor
  · rintro ⟨⟨⟨a0, a1⟩, a2⟩, a3⟩ j
    have hj := j.isLt
    by_cases c1 : j.val < 640
    · have := a0 ⟨j.val, c1⟩; rw [e0] at this
      exact (congrArg (fun z => f z ≤ c) (Fin.ext (by show 0 + j.val = j.val; omega))).mp this
    by_cases c2 : j.val < 1280
    · have := a1 ⟨j.val - 640, by omega⟩; rw [e1] at this
      exact (congrArg (fun z => f z ≤ c) (Fin.ext (by show 640 + (j.val - 640) = j.val; omega))).mp this
    by_cases c3 : j.val < 1920
    · have := a2 ⟨j.val - 1280, by omega⟩; rw [e2] at this
      exact (congrArg (fun z => f z ≤ c) (Fin.ext (by show 1280 + (j.val - 1280) = j.val; omega))).mp this
    · have := a3 ⟨j.val - 1920, by omega⟩; rw [e3] at this
      exact (congrArg (fun z => f z ≤ c) (Fin.ext (by show 1920 + (j.val - 1920) = j.val; omega))).mp this
  · intro a
    exact ⟨⟨⟨fun j => by rw [e0]; exact a _, fun j => by rw [e1]; exact a _⟩, fun j => by rw [e2]; exact a _⟩, fun j => by rw [e3]; exact a _⟩

end Cert.AttnIdeal.Hand

end
-- ==== Proof.Attn.lean ====
/-
  The attention call: four points, a group of five heads each, their results kept in a scratch and quantised at the last point.
  At the ideal instance its codes and scales are the reference's.
-/
module

public import proofs.«01_k».proof.Defs
public import proofs.«01_k».proof.Proof.AttnIdealFrame
public import proofs.«01_k».proof.Proof.AttnRef
public import proofs.«01_k».proof.Proof.AttnHead
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Hand

open Cert.AttnIdeal Cert.AttnIdeal.Gen Cert.AttnRow

variable (m : (ℓ : Loc nD τ sig) → Buf (Elt Ideal) ℓ)

/-- The blocks' places: column block `t` of the queries, the keys and the values, the whole array of the others. -/
theorem idx : ∀ t : Fin cfg0.N, win0_0.index t = ![0, t.val] ∧ win0_1.index t = ![0, 20 + t.val] ∧ win0_2.index t = ![0, 24 + t.val]
    ∧ win0_3.index t = ![0, 0] ∧ win0_4.index t = ![0, 0] ∧ win0_5.index t = ![0, 0] ∧ win0_6.index t = ![0, 0] :=
  (by decide +kernel : ∀ t : Fin grid0.N, _)

theorem pt_lt (t : Fin cfg0.N) : t.val < 4 := Nat.lt_of_lt_of_eq t.isLt N_0

/-! ## Reads -/

theorem q_at (c : Dev nD) (t : Fin cfg0.N) (r : Fin 512) (j : Fin 640) :
    (show FVec Ideal S512x640 .bf16 from X0_0 m c t) (ix2 r j)
    = (m ((c : Thread nD τ).loc main_arg0) : FVec Ideal S512x3584 .bf16) (ix2 r (⟨t.val * 640 + j.val, by have := pt_lt t; omega⟩ : Fin 3584)) := by
  have ht := pt_lt t
  unfold X0_0 Pipeline.Window.fill
  refine (dif_pos (moved0_0 t _)).trans ?_
  blk_ext [iblk, V, idx t]

theorem k_at (c : Dev nD) (t : Fin cfg0.N) (r : Fin 512) (d : Fin 128) :
    (show FVec Ideal S512x128 .bf16 from iblk m c 1 t) (ix2 r d)
    = (m ((c : Thread nD τ).loc main_arg0) : FVec Ideal S512x3584 .bf16) (ix2 r (⟨2560 + t.val * 128 + d.val, by have := pt_lt t; omega⟩ : Fin 3584)) := by
  have ht := pt_lt t
  blk_ext [iblk, V, idx t]

theorem v_at (c : Dev nD) (t : Fin cfg0.N) (r : Fin 512) (d : Fin 128) :
    (show FVec Ideal S512x128 .bf16 from iblk m c 2 t) (ix2 r d)
    = (m ((c : Thread nD τ).loc main_arg0) : FVec Ideal S512x3584 .bf16) (ix2 r (⟨3072 + t.val * 128 + d.val, by have := pt_lt t; omega⟩ : Fin 3584)) := by
  have ht := pt_lt t
  blk_ext [iblk, V, idx t]

theorem seg_at (c : Dev nD) (t : Fin cfg0.N) (r : Fin 512) :
    (show IVec S512x1 32 from iblk m c 3 t) (ix2 r 0) = (m ((c : Thread nD τ).loc main_arg1) : IVec S1x512 32) (ix2 0 r) := by
  blk_simp [iblk]
  entry_read
  pointwise
  blk_ext [idx t]

theorem seg'_at (c : Dev nD) (t : Fin cfg0.N) (r : Fin 512) :
    (show IVec S1x512 32 from iblk m c 4 t) (ix2 0 r) = (m ((c : Thread nD τ).loc main_arg1) : IVec S1x512 32) (ix2 0 r) := by
  blk_ext [iblk, V, idx t]

theorem ldk (x : Vec Ideal S512x128 .bf16) : View.ld x r_S512x128 = x := by
  frame_out
theorem lda (x : Vec Ideal S512x1 .i32) : View.ld x r_S512x1 = x := by
  frame_out
theorem ldb (x : Vec Ideal S1x512 .i32) : View.ld x r_S1x512 = x := by
  frame_out

theorem ldq0 (x : Vec Ideal S512x640 .bf16) (r : Fin 512) (d : Fin 128) :
    View.ld x r_q0 (ix2 r d) = x (ix2 r (⟨0 + d.val, by omega⟩ : Fin 640)) := by
  refine congrArg x ?_
  blk_ext <;> exact (Rect.idx_unit_val _ _ _ _ _).trans (by simp [ix2, ix3])
theorem ldq1 (x : Vec Ideal S512x640 .bf16) (r : Fin 512) (d : Fin 128) :
    View.ld x r_q1 (ix2 r d) = x (ix2 r (⟨128 + d.val, by omega⟩ : Fin 640)) := by
  refine congrArg x ?_
  blk_ext <;> exact (Rect.idx_unit_val _ _ _ _ _).trans (by simp [ix2, ix3])
theorem ldq2 (x : Vec Ideal S512x640 .bf16) (r : Fin 512) (d : Fin 128) :
    View.ld x r_q2 (ix2 r d) = x (ix2 r (⟨256 + d.val, by omega⟩ : Fin 640)) := by
  refine congrArg x ?_
  blk_ext <;> exact (Rect.idx_unit_val _ _ _ _ _).trans (by simp [ix2, ix3])
theorem ldq3 (x : Vec Ideal S512x640 .bf16) (r : Fin 512) (d : Fin 128) :
    View.ld x r_q3 (ix2 r d) = x (ix2 r (⟨384 + d.val, by omega⟩ : Fin 640)) := by
  refine congrArg x ?_
  blk_ext <;> exact (Rect.idx_unit_val _ _ _ _ _).trans (by simp [ix2, ix3])
theorem ldq4 (x : Vec Ideal S512x640 .bf16) (r : Fin 512) (d : Fin 128) :
    View.ld x r_q4 (ix2 r d) = x (ix2 r (⟨512 + d.val, by omega⟩ : Fin 640)) := by
  refine congrArg x ?_
  blk_ext <;> exact (Rect.idx_unit_val _ _ _ _ _).trans (by simp [ix2, ix3])
theorem ldg0 (s : Vec Ideal S4x512x640 .f32) (r : Fin 512) (j : Fin 640) :
    View.ld s r_g0 (ix3 0 r j) = s (ix3 (0 : Fin 4) r j) := by
  refine congrArg s ?_
  blk_ext <;> exact (Rect.idx_unit_val _ _ _ _ _).trans (by simp [ix2, ix3])
theorem ldg1 (s : Vec Ideal S4x512x640 .f32) (r : Fin 512) (j : Fin 640) :
    View.ld s r_g1 (ix3 0 r j) = s (ix3 (1 : Fin 4) r j) := by
  refine congrArg s ?_
  blk_ext <;> exact (Rect.idx_unit_val _ _ _ _ _).trans (by simp [ix2, ix3])
theorem ldg2 (s : Vec Ideal S4x512x640 .f32) (r : Fin 512) (j : Fin 640) :
    View.ld s r_g2 (ix3 0 r j) = s (ix3 (2 : Fin 4) r j) := by
  refine congrArg s ?_
  blk_ext <;> exact (Rect.idx_unit_val _ _ _ _ _).trans (by simp [ix2, ix3])
theorem ldg3 (s : Vec Ideal S4x512x640 .f32) (r : Fin 512) (j : Fin 640) :
    View.ld s r_g3 (ix3 0 r j) = s (ix3 (3 : Fin 4) r j) := by
  refine congrArg s ?_
  blk_ext <;> exact (Rect.idx_unit_val _ _ _ _ _).trans (by simp [ix2, ix3])

/-! ## The scratch -/

/-- The attention of the arguments. -/
abbrev A (c : Dev nD) : FVec Ideal S512x2560 .f32 :=
  Cert.AttnRefIdeal.Hand.R (m ((c : Thread nD τ).loc main_arg0)) (m ((c : Thread nD τ).loc main_arg1))

/-- A head's operands read off the arrays. -/
theorem hd_read (c : Dev nD) (t : Fin cfg0.N) (g : Fin 4) (hg : g.val = t.val) (i : Fin 5) (q : FVec Ideal S512x128 .bf16)
    (hq : ∀ (r : Fin 512) (d : Fin 128), q (ix2 r d) = (show FVec Ideal S512x640 .bf16 from X0_0 m c t) (ix2 r (⟨i.val * 128 + d.val, by omega⟩ : Fin 640)))
    (r : Fin 512) (d : Fin 128) :
    hd (k0_pay12 (F := Ideal) (iblk m c 3 t) (iblk m c 4 t)) (iblk m c 1 t) (iblk m c 2 t) q (ix3 0 r d) = A m c (ix2 r (Cert.AttnRefIdeal.Hand.col g i d)) := by
  refine hd_at _ _ _ _ _ _ _ g i (seg_at m c t) (seg'_at m c t) (fun r d => (k_at m c t r d).trans ?_) (fun r d => (v_at m c t r d).trans ?_)
    (fun r d => (hq r d).trans ((q_at m c t r _).trans ?_)) r d
  · blk_ext
  · blk_ext
  · blk_ext

theorem head0_at (c : Dev nD) (t : Fin cfg0.N) (g : Fin 4) (hg : g.val = t.val) (r : Fin 512) (d : Fin 128) :
    head0 (F := Ideal) (X0_0 m c t) (iblk m c 1 t) (iblk m c 2 t) (iblk m c 3 t) (iblk m c 4 t) (ix3 0 r d) = A m c (ix2 r (Cert.AttnRefIdeal.Hand.col g 0 d)) := by
  unfold head0
  rw [ldk, ldk, lda, ldb, hd0_eq]
  refine hd_read m c t g hg 0 _ (fun r d => (ldq0 _ r d).trans ?_) r d
  refine congrArg (X0_0 m c t) ?_
  blk_ext
theorem head1_at (c : Dev nD) (t : Fin cfg0.N) (g : Fin 4) (hg : g.val = t.val) (r : Fin 512) (d : Fin 128) :
    head1 (F := Ideal) (X0_0 m c t) (iblk m c 1 t) (iblk m c 2 t) (iblk m c 3 t) (iblk m c 4 t) (ix3 0 r d) = A m c (ix2 r (Cert.AttnRefIdeal.Hand.col g 1 d)) := by
  unfold head1
  rw [ldk, ldk, lda, ldb, hd1_eq]
  refine hd_read m c t g hg 1 _ (fun r d => (ldq1 _ r d).trans ?_) r d
  refine congrArg (X0_0 m c t) ?_
  blk_ext
theorem head2_at (c : Dev nD) (t : Fin cfg0.N) (g : Fin 4) (hg : g.val = t.val) (r : Fin 512) (d : Fin 128) :
    head2 (F := Ideal) (X0_0 m c t) (iblk m c 1 t) (iblk m c 2 t) (iblk m c 3 t) (iblk m c 4 t) (ix3 0 r d) = A m c (ix2 r (Cert.AttnRefIdeal.Hand.col g 2 d)) := by
  unfold head2
  rw [ldk, ldk, lda, ldb, hd2_eq]
  refine hd_read m c t g hg 2 _ (fun r d => (ldq2 _ r d).trans ?_) r d
  refine congrArg (X0_0 m c t) ?_
  blk_ext
theorem head3_at (c : Dev nD) (t : Fin cfg0.N) (g : Fin 4) (hg : g.val = t.val) (r : Fin 512) (d : Fin 128) :
    head3 (F := Ideal) (X0_0 m c t) (iblk m c 1 t) (iblk m c 2 t) (iblk m c 3 t) (iblk m c 4 t) (ix3 0 r d) = A m c (ix2 r (Cert.AttnRefIdeal.Hand.col g 3 d)) := by
  unfold head3
  rw [ldk, ldk, lda, ldb, hd3_eq]
  refine hd_read m c t g hg 3 _ (fun r d => (ldq3 _ r d).trans ?_) r d
  refine congrArg (X0_0 m c t) ?_
  blk_ext
theorem head4_at (c : Dev nD) (t : Fin cfg0.N) (g : Fin 4) (hg : g.val = t.val) (r : Fin 512) (d : Fin 128) :
    head4 (F := Ideal) (X0_0 m c t) (iblk m c 1 t) (iblk m c 2 t) (iblk m c 3 t) (iblk m c 4 t) (ix3 0 r d) = A m c (ix2 r (Cert.AttnRefIdeal.Hand.col g 4 d)) := by
  unfold head4
  rw [ldk, ldk, lda, ldb, hd4_eq]
  refine hd_read m c t g hg 4 _ (fun r d => (ldq4 _ r d).trans ?_) r d
  refine congrArg (X0_0 m c t) ?_
  blk_ext

theorem headAt_at (c : Dev nD) (t : Fin cfg0.N) (g : Fin 4) (hg : g.val = t.val) (k : Fin 5) (r : Fin 512) (d : Fin 128) :
    headAt (F := Ideal) m c t k (ix3 0 r d) = A m c (ix2 r (Cert.AttnRefIdeal.Hand.col g k d)) :=
  match k with
  | 0 => head0_at m c t g hg r d
  | 1 => head1_at m c t g hg r d
  | 2 => head2_at m c t g hg r d
  | 3 => head3_at m c t g hg r d
  | 4 => head4_at m c t g hg r d

/-- The scratch after the last point holds the attention, a group per slice. -/
theorem scr_at (c : Dev nD) (g : Fin 4) (r : Fin 512) (j : Fin 640) (o : ℕ) (ho : o = 640 * g.val) (h : o + j.val < 2560) :
    scrEnd (F := Ideal) m c junk (ix3 g r j) = A m c (ix2 r (⟨o + j.val, h⟩ : Fin 2560)) := by
  have hj := j.isLt
  refine (scrEnd_at (F := Ideal) m c junk (⟨g.val, Nat.lt_of_lt_of_eq g.isLt N_0.symm⟩ : Fin cfg0.N) (⟨j.val / 128, by omega⟩ : Fin 5) (ix3 g r j)
    (ix3 0 r (⟨j.val % 128, by omega⟩ : Fin 128)) rfl rfl ?_).trans ((headAt_at m c _ g rfl _ r _).trans ?_)
  · show j.val = 128 * (j.val / 128) + j.val % 128
    omega
  · refine congrArg (A m c) (congrArg (ix2 r) (Fin.ext ?_))
    show g.val * 640 + j.val / 128 * 128 + j.val % 128 = o + j.val
    omega

/-! ## The results -/

/-- The greatest absolute value of a row of the scratch. -/
theorem amax_at (c : Dev nD) (r : Fin 512) :
    k0_pay2 (F := Ideal) (View.ld (scrEnd (F := Ideal) m c junk) r_g0) (View.ld (scrEnd (F := Ideal) m c junk) r_g1) (View.ld (scrEnd (F := Ideal) m c junk) r_g2)
      (View.ld (scrEnd (F := Ideal) m c junk) r_g3) (ix2 r 0)
    = mx fun j : Fin 2560 => (FloatOps.absf (F := Ideal) (φ := .f32) (A m c (ix2 r j)) : EReal) := by
  refine (pay2_at _ _ _ _ r).trans (mx_split _ _ _ _ _ (fun j => ?_) (fun j => ?_) (fun j => ?_) (fun j => ?_))
  · exact congrArg _ ((ldg0 _ r j).trans (scr_at m c 0 r j 0 rfl _))
  · exact congrArg _ ((ldg1 _ r j).trans (scr_at m c 1 r j 640 rfl _))
  · exact congrArg _ ((ldg2 _ r j).trans (scr_at m c 2 r j 1280 rfl _))
  · exact congrArg _ ((ldg3 _ r j).trans (scr_at m c 3 r j 1920 rfl _))

/-- The scale of a row. -/
theorem sc_at (c : Dev nD) (r : Fin 512) : sc (F := Ideal) (scrEnd (F := Ideal) m c junk) (ix2 r 0) = Cert.Quant.rscale (Cert.AttnRefIdeal.Hand.ex (A m c) r) := by
  unfold sc
  rw [pay6_eq, pay5_eq]
  refine (kS_at _ r).trans ((congrArg _ ((kE_at _ r).trans (congrArg _ (amax_at m c r)))).trans ?_)
  exact (Cert.Quant.quant _).1

/-- The factor of a row. -/
theorem rc_at (c : Dev nD) (r : Fin 512) : rc (F := Ideal) (scrEnd (F := Ideal) m c junk) (ix2 r 0) = Cert.Quant.rscale (0 - Cert.AttnRefIdeal.Hand.ex (A m c) r) := by
  unfold rc
  rw [pay7_eq, pay5_eq]
  refine (kS_at _ r).trans ((congrArg _ ((sub_at _ r).trans (congrArg _ ((kE_at _ r).trans (congrArg _ (amax_at m c r)))))).trans ?_)
  exact (Cert.Quant.quant _).2

/-- The codes stored, at an index. -/
theorem out5_at (c : Dev nD) (y0 : Fin 512) (y1 : Fin 2560) : out0_5 (F := Ideal) (scrEnd (F := Ideal) m c junk) (ix2 y0 y1)
    = code (A m c (ix2 y0 y1)) (Cert.Quant.rscale (0 - Cert.AttnRefIdeal.Hand.ex (A m c) y0)) := by
  have key : ∀ (g : Fin 4) (o : ℕ) (ho : o = 640 * g.val) (a : FVec Ideal S1x512x640 .f32) (p : FVec Ideal S512x640 .fp8e4m3)
      (hp : ∀ (r : Fin 512) (j : Fin 640), p (ix2 r j) = code (a (ix3 0 r j)) (rc (F := Ideal) (scrEnd (F := Ideal) m c junk) (ix2 r 0)))
      (ha : ∀ (r : Fin 512) (j : Fin 640), a (ix3 0 r j) = scrEnd (F := Ideal) m c junk (ix3 g r j))
      (x : S512x640.Idx) (h0 : y0.val = (x 0).val) (h1 : y1.val = o + (x 1).val),
      p x = code (A m c (ix2 y0 y1)) (Cert.Quant.rscale (0 - Cert.AttnRefIdeal.Hand.ex (A m c) y0)) := by
    intro g o ho a p hp ha x h0 h1
    idx_vars x
    obtain rfl : y0 = x0 := Fin.ext h0
    refine (hp _ _).trans (congrArg₂ code ((ha _ _).trans ((scr_at m c g _ _ o ho ?_).trans ?_)) (rc_at m c _))
    · have h := y1.isLt
      rw [h1] at h
      exact h
    · exact congrArg (fun z => A m c (ix2 y0 z)) (Fin.ext h1.symm)
  unfold out0_5
  canon_tiles x h
  · exact key 3 1920 rfl _ _ (pay11_at _ _) (ldg3 _) x h0 h1
  · exact key 2 1280 rfl _ _ (pay10_at _ _) (ldg2 _) x h0 h1
  · exact key 1 640 rfl _ _ (pay9_at _ _) (ldg1 _) x h0 h1
  · exact key 0 0 rfl _ _ (pay8_at _ _) (ldg0 _) x h0 (h1.trans (Nat.zero_add _).symm)

/-- The kernel's codes after its run. -/
theorem final5 (c : Dev nD) : (dats m 0 c).arrAt 5 (cfgs 0).N
    = Cert.AttnRefIdeal.Gen.k0_pay1 (F := Ideal) (Cert.AttnRefIdeal.Gen.k0_pay5 (F := Ideal) (A m c)) := by
  refine (dats m 0 c).arrAt_eq_of_covers 5 _ (by decide +kernel) fun t _ y => ?_
  blk_simp
  rw [after0_5]
  idx_vars y
  have e : (((cfg0.win 5).blk t).view.emb (ix2 y0 y1)) = ix2 y0 y1 := by
    blk_ext [idx t]
  rw [e]
  exact (out5_at m c y0 y1).trans (Cert.AttnRefIdeal.Hand.codes_at _ y0 y1).symm

/-- The kernel's scales after its run. -/
theorem final6 (c : Dev nD) : (dats m 0 c).arrAt 6 (cfgs 0).N
    = Cert.AttnRefIdeal.Gen.k0_pay2 (F := Ideal) (Cert.AttnRefIdeal.Gen.k0_pay4 (F := Ideal) (A m c)) := by
  refine (dats m 0 c).arrAt_eq_of_covers 6 _ (by decide +kernel) fun t _ y => ?_
  blk_simp
  rw [after0_6]
  unfold out0_6
  idx_vars y
  obtain rfl : y1 = 0 := Subsingleton.elim _ _
  have e : (((cfg0.win 6).blk t).view.emb (ix2 y0 0)) = ix2 y0 0 := by
    blk_ext [idx t]
  rw [e]
  frame_out
  exact (sc_at m c y0).trans (Cert.AttnRefIdeal.Hand.scales_at _ y0).symm

end Cert.AttnIdeal.Hand

namespace Cert.AttnClaims

set_option maxHeartbeats 2000000 in
/-- At the ideal instance the attention call computes the reference's codes and scales. -/
theorem algebraic : Cert.algebraic_AttnIdeal_AttnRefIdeal := by
  pair_intro
  · run_from Cert.AttnIdeal.Hand.run_main m g
  · run_from Cert.AttnRefIdeal.Gen.run_main m' g'
    · obtain ⟨h0, h1⟩ := hagree c
      refine (Cert.AttnRefIdeal.Hand.final1 m' c).trans (Eq.trans ?_ (Cert.AttnIdeal.Hand.final5 m c).symm)
      rw [h0, h1]
    · obtain ⟨h0, h1⟩ := hagree c
      refine (Cert.AttnRefIdeal.Hand.final2 m' c).trans (Eq.trans ?_ (Cert.AttnIdeal.Hand.final6 m c).symm)
      rw [h0, h1]
    · obtain ⟨h0, h1⟩ := hagree c
      refine Eq.trans ?_ h0
      simp only [Cert.AttnRefIdeal.Gen.hostOps0, Cert.AttnRefIdeal.Gen.hostOps0_1, Cert.AttnRefIdeal.Gen.hostOps0_2, List.flatten_cons, List.flatten_nil, List.append_nil, List.cons_append, List.nil_append]
      entry_read
      rfl
    · obtain ⟨h0, h1⟩ := hagree c
      refine Eq.trans ?_ h1
      simp only [Cert.AttnRefIdeal.Gen.hostOps0, Cert.AttnRefIdeal.Gen.hostOps0_1, Cert.AttnRefIdeal.Gen.hostOps0_2, List.flatten_cons, List.flatten_nil, List.append_nil, List.cons_append, List.nil_append]
      entry_read
      rfl

end Cert.AttnClaims

end
-- ==== Proof.Ln.lean ====
/-
  The norm call: four blocks of 128 rows, each normalised and quantised by itself. At the ideal instance its two results are the
  reference's functions of the arguments.
-/
module

public import proofs.«01_k».proof.Defs
public import proofs.«01_k».proof.Proof.Gen.LnIdeal.Frame
public import proofs.«01_k».proof.Proof.Gen.LnRefIdeal.Frame
public import proofs.«01_k».proof.Proof.Scale
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LnClaims

/-! ## One row -/

/-- A row's mean. -/
def mean (x : Fin 5120 → EReal) : EReal := Ideal.div (∑ k, x k) (Ideal.ofBits .f32 0x45A00000#32)

/-- A row's normalised value at a column. -/
def norm (x w : Fin 5120 → EReal) (j : Fin 5120) : EReal :=
  (x j - mean x) * Ideal.rsqrt (mean (fun k => (x k - mean x) * (x k - mean x)) + Ideal.ofBits .f32 0x3727C5AC#32) * w j

/-- A row's largest absolute value. -/
def rowmax (v : Fin 5120 → EReal) : EReal := Finset.fold max (Ideal.ofBits .f32 0xFF800000#32) (fun k => (FloatOps.absf (F := Ideal) (φ := .f32) (v k) : EReal)) Finset.univ

/-- A code, clipped, from a value and a factor. -/
def code (x s : EReal) : EReal := min (Ideal.ofBits .f32 0x43E00000#32) (max (Ideal.ofBits .f32 0xC3E00000#32) (x * s))

end Cert.LnClaims

namespace Cert.LnIdeal.Hand

open Cert.LnIdeal Cert.LnIdeal.Gen Cert.LnClaims

/-! ## The kernel's block -/

/-- A block's rows' maxima of absolute values. -/
def amax (V : FVec Ideal S128x5120 .f32) : FVec Ideal S128x1 .f32 :=
  shapeCast S128x1 (multiReduction (F := Ideal) .maximumf [1] S128 (absf V) 0xFF800000#32 reduces_S128x5120_S128 (.inl rfl) rfl) shapeCasts_S128_S128x1

/-- The kernel's count of thresholds from the maxima. -/
def kB (A : FVec Ideal S128x1 .f32) : IVec S128x1 32 :=
  have cst_8 : Ideal .f32 := Scalar.ofBits .f32 0x3B124925#32
  have v26 : FVec Ideal S128x1 .f32 := broadcast S128x1 cst_8
  have v27 : FVec Ideal S128x1 .f32 := mulf A v26
  have v28 : IVec S128x256 32 := iota .tc S128x256 32 [1] iota_S128x256_d1_w32
  have v29 : IVec S128x256 32 := broadcast S128x256 0#32
  have v30 : IVec S128x256 1 := cmpi .sgt v28 v29
  have v31 : IVec S128x256 32 := broadcast S128x256 23#32
  have v32 : IVec S128x256 32 := shli v28 v31
  have v33 : FVec Ideal S128x256 .f32 := bitcastToFloat .f32 v32
  have v34 : FVec Ideal S128x256 .f32 := broadcastTo S128x256 v27 broadcasts_S128x1_S128x256
  have v35 : IVec S128x256 1 := cmpf .oge v34 v33
  have v36 : IVec S128x256 1 := andi v30 v35
  have v37 : IVec S128x256 32 := extui 32 v36 natLt_1_32
  have v38 : IVec S128 32 := multiReductionI .add [1] S128 v37 0#32 reduces_S128x256_S128 rfl
  have v39 : IVec S128x1 32 := shapeCast S128x1 v38 shapeCasts_S128_S128x1
  v39

/-- The kernel's exponents from the maxima. -/
def kE (A : FVec Ideal S128x1 .f32) : IVec S128x1 32 := k0_pay7 (F := Ideal) A (kB A) (cmpi .eq (kB A) (broadcast S128x1 0#32)) k0_pay6

theorem norm_at (X : FVec Ideal S128x5120 .bf16) (W : FVec Ideal S1x5120 .f32) (r : Fin 128) (j : Fin 5120) :
    k0_pay2 (F := Ideal) X W (ix2 r j) = norm (fun k => X (ix2 r k)) (fun k => W (ix2 0 k)) j := by
  pointwise [k0_pay2]
  rfl

theorem amax_at (V : FVec Ideal S128x5120 .f32) (r : Fin 128) : amax V (ix2 r 0) = rowmax (fun k => V (ix2 r k)) := by
  pointwise [amax]
  rfl

theorem kE_at (A : FVec Ideal S128x1 .f32) (r : Fin 128) : kE A (ix2 r 0) = Cert.Quant.kexp (A (ix2 r 0)) := by
  pointwise [kE, kB, k0_pay7, k0_pay6]
  rfl

theorem code_at (V : FVec Ideal S128x5120 .f32) (A : FVec Ideal S128x1 .f32) (B : IVec S128x1 32) (C : IVec S128x1 1) (D : IVec S128x1 32) (r : Fin 128) (j : Fin 5120) :
    k0_pay1 (F := Ideal) (k0_pay9 V A B C D) k0_pay10 (ix2 r j) = code (V (ix2 r j)) (Cert.Quant.kscale (IntOp.subi 0#32 (k0_pay7 A B C D (ix2 r 0)))) := by
  pointwise [k0_pay1, k0_pay9, k0_pay10]
  rfl

theorem scale_at (A : FVec Ideal S128x1 .f32) (B : IVec S128x1 32) (C : IVec S128x1 1) (D : IVec S128x1 32) (r : Fin 128) :
    k0_pay8 (F := Ideal) A B C D (ix2 r 0) = Cert.Quant.kscale (k0_pay7 A B C D (ix2 r 0)) := by
  pointwise [k0_pay8]
  rfl

end Cert.LnIdeal.Hand

namespace Cert.LnRefIdeal.Hand

open Cert.LnRefIdeal Cert.LnRefIdeal.Gen Cert.LnClaims

/-! ## The reference's rows -/

/-- The rows' maxima of absolute values. -/
def amax (V : FVec Ideal S512x5120 .f32) : FVec Ideal S512x1 .f32 :=
  shapeCast S512x1 (multiReduction (F := Ideal) .maximumf [1] S512 (absf V) 0xFF800000#32 reduces_S512x5120_S512 (.inl rfl) rfl) shapeCasts_S512_S512x1

/-- The reference's exponents from the maxima, before zero is set apart. -/
def rL (A : FVec Ideal S512x1 .f32) : FVec Ideal S512x1 .f32 :=
  have cst_8 : Ideal .f32 := Scalar.ofBits .f32 0x3B124925#32
  have v28 : FVec Ideal S512x1 .f32 := broadcast S512x1 cst_8
  have v29 : FVec Ideal S512x1 .f32 := mulf A v28
  have cst_9 : Ideal .f32 := Scalar.ofBits .f32 0x00800000#32
  have v30 : FVec Ideal S512x1 .f32 := broadcast S512x1 cst_9
  have v31 : IVec S512x1 1 := cmpf .oge v29 v30
  have cst_10 : Ideal .f32 := Scalar.ofBits .f32 0x7F800000#32
  have v32 : FVec Ideal S512x1 .f32 := broadcast S512x1 cst_10
  have v33 : IVec S512x1 1 := cmpf .olt v29 v32
  have v34 : IVec S512x1 1 := andi v31 v33
  have v35 : FVec Ideal S512x1 .f32 := log v29
  have cst_11 : Ideal .f32 := Scalar.ofBits .f32 0x40000000#32
  have v36 : FVec Ideal S512x1 .f32 := broadcast S512x1 cst_11
  have v37 : FVec Ideal S512x1 .f32 := log v36
  have v38 : FVec Ideal S512x1 .f32 := divf v35 v37
  have v39 : FVec Ideal S512x1 .f32 := floor v38
  have cst_12 : Ideal .f32 := Scalar.ofBits .f32 0x3F800000#32
  have v40 : FVec Ideal S512x1 .f32 := broadcast S512x1 cst_12
  have v41 : FVec Ideal S512x1 .f32 := addf v39 v40
  have cst_13 : Ideal .f32 := Scalar.ofBits .f32 0x00000000#32
  have v42 : FVec Ideal S512x1 .f32 := broadcast S512x1 cst_13
  have v43 : FVec Ideal S512x1 .f32 := select v34 v41 v42
  v43

theorem norm_at (X : FVec Ideal S512x5120 .bf16) (W : FVec Ideal S1x5120 .f32) (r : Fin 512) (j : Fin 5120) :
    k0_pay4 (F := Ideal) X W (ix2 r j) = norm (fun k => X (ix2 r k)) (fun k => W (ix2 0 k)) j := by
  pointwise [k0_pay4]
  rfl

theorem amax_at (V : FVec Ideal S512x5120 .f32) (r : Fin 512) : amax V (ix2 r 0) = rowmax (fun k => V (ix2 r k)) := by
  pointwise [amax]
  rfl

theorem rE_at (A : FVec Ideal S512x1 .f32) (r : Fin 512) : k0_pay1 (F := Ideal) A (rL A) (ix2 r 0) = Cert.Quant.rexp (A (ix2 r 0)) := by
  pointwise [k0_pay1, rL]
  rfl

theorem code_at (V : FVec Ideal S512x5120 .f32) (A : FVec Ideal S512x1 .f32) (L : FVec Ideal S512x1 .f32) (r : Fin 512) (j : Fin 5120) :
    k0_pay2 (F := Ideal) V A L (ix2 r j) = code (V (ix2 r j)) (Cert.Quant.rscale (0 - k0_pay1 (F := Ideal) A L (ix2 r 0))) := by
  pointwise [k0_pay2]
  rfl

theorem scale_at (A : FVec Ideal S512x1 .f32) (L : FVec Ideal S512x1 .f32) (r : Fin 512) :
    k0_pay3 (F := Ideal) A L (ix2 r 0) = Cert.Quant.rscale (k0_pay1 (F := Ideal) A L (ix2 r 0)) := by
  pointwise [k0_pay3]
  rfl

/-- A row's largest normalised value. -/
theorem top_at (X : FVec Ideal S512x5120 .bf16) (W : FVec Ideal S1x5120 .f32) (r : Fin 512) :
    k0_pay5 (F := Ideal) X W (ix2 r 0) = rowmax (norm (fun k => X (ix2 r k)) (fun k => W (ix2 0 k))) :=
  (amax_at (k0_pay4 (F := Ideal) X W) r).trans (congrArg rowmax (funext fun k => norm_at X W r k))

/-- The reference's codes of one row, from the row and the weights. -/
def codes (x w : Fin 5120 → EReal) (j : Fin 5120) : EReal :=
  code (norm x w j) (Cert.Quant.rscale (0 - Cert.Quant.rexp (rowmax (norm x w))))

/-- The reference's scale of one row, from the row and the weights. -/
def scale (x w : Fin 5120 → EReal) : EReal := Cert.Quant.rscale (Cert.Quant.rexp (rowmax (norm x w)))

/-- The reference's exponent of a row. -/
theorem exp_at (X : FVec Ideal S512x5120 .bf16) (W : FVec Ideal S1x5120 .f32) (r : Fin 512) :
    k0_pay1 (F := Ideal) (k0_pay5 (F := Ideal) X W) (k0_pay6 (F := Ideal) X W) (ix2 r 0)
    = Cert.Quant.rexp (rowmax (norm (fun k => X (ix2 r k)) (fun k => W (ix2 0 k)))) :=
  (rE_at (k0_pay5 (F := Ideal) X W) r).trans (congrArg _ (top_at X W r))

/-- The reference's first result at an index. -/
theorem ref2_at (X : FVec Ideal S512x5120 .bf16) (W : FVec Ideal S1x5120 .f32) (r : Fin 512) (j : Fin 5120) :
    k0_pay2 (F := Ideal) (k0_pay4 (F := Ideal) X W) (k0_pay5 (F := Ideal) X W) (k0_pay6 (F := Ideal) X W) (ix2 r j)
    = codes (fun k => X (ix2 r k)) (fun k => W (ix2 0 k)) j :=
  (code_at _ _ _ r j).trans (congrArg₂ (fun a b => code a (Cert.Quant.rscale (0 - b))) (norm_at X W r j) (exp_at X W r))

/-- The reference's second result at an index. -/
theorem ref3_at (X : FVec Ideal S512x5120 .bf16) (W : FVec Ideal S1x5120 .f32) (r : Fin 512) :
    k0_pay3 (F := Ideal) (k0_pay5 (F := Ideal) X W) (k0_pay6 (F := Ideal) X W) (ix2 r 0)
    = scale (fun k => X (ix2 r k)) (fun k => W (ix2 0 k)) :=
  (scale_at _ _ r).trans (congrArg Cert.Quant.rscale (exp_at X W r))

/-- The reference's first result from its arguments. -/
def REF2 (X : FVec Ideal S1x512x5120 .bf16) (W : FVec Ideal S5120 .f32) : FVec Ideal S512x5120 .fp8e4m3 :=
  fun y => codes (fun k => X (ix3 0 (y 0) k)) (fun k => W (ix1 k)) (y 1)

/-- The reference's second result from its arguments. -/
def REF3 (X : FVec Ideal S1x512x5120 .bf16) (W : FVec Ideal S5120 .f32) : FVec Ideal S512x1 .f32 :=
  fun y => scale (fun k => X (ix3 0 (y 0) k)) (fun k => W (ix1 k))

variable (m : (ℓ : Loc nD τ sig) → Buf (Elt Ideal) ℓ)

theorem idx : ∀ t : Fin cfg0.N, win0_0.index t = ![0, 0] ∧ win0_1.index t = ![0, 0] := (by decide +kernel : ∀ t : Fin grid0.N, _)

theorem read0 (c : Dev nD) (r : Fin 512) (k : Fin 5120) : (show FVec Ideal S512x5120 .bf16 from iblk m c 0 t0_0) (ix2 r k)
    = (m ((c : Thread nD τ).loc main_arg0) : FVec Ideal S1x512x5120 .bf16) (ix3 0 r k) := by
  blk_simp [iblk]
  entry_read
  pointwise
  blk_ext [idx t0_0]

theorem read1 (c : Dev nD) (k : Fin 5120) : (show FVec Ideal S1x5120 .f32 from iblk m c 1 t0_0) (ix2 0 k)
    = (m ((c : Thread nD τ).loc main_arg1) : FVec Ideal S5120 .f32) (ix1 k) := by
  blk_simp [iblk]
  entry_read
  pointwise
  blk_ext [idx t0_0]

theorem whole2 (c : Dev nD) (y : S512x5120.Idx) :
    k0_pay2 (F := Ideal) (k0_pay4 (F := Ideal) (iblk m c 0 t0_0) (iblk m c 1 t0_0)) (k0_pay5 (F := Ideal) (iblk m c 0 t0_0) (iblk m c 1 t0_0))
      (k0_pay6 (F := Ideal) (iblk m c 0 t0_0) (iblk m c 1 t0_0)) y
    = REF2 (m ((c : Thread nD τ).loc main_arg0)) (m ((c : Thread nD τ).loc main_arg1)) y := by
  idx_vars y
  exact (ref2_at _ _ _ _).trans (congrArg₂ (fun x w => codes x w _) (funext fun k => read0 m c _ k) (funext fun k => read1 m c k))

theorem whole3 (c : Dev nD) (y : S512x1.Idx) :
    k0_pay3 (F := Ideal) (k0_pay5 (F := Ideal) (iblk m c 0 t0_0) (iblk m c 1 t0_0))
      (k0_pay6 (F := Ideal) (iblk m c 0 t0_0) (iblk m c 1 t0_0)) y
    = REF3 (m ((c : Thread nD τ).loc main_arg0)) (m ((c : Thread nD τ).loc main_arg1)) y := by
  idx_vars y
  obtain rfl : y1 = 0 := Subsingleton.elim _ _
  exact (ref3_at _ _ _).trans (congrArg₂ scale (funext fun k => read0 m c _ k) (funext fun k => read1 m c k))

/-- The reference's array of codes after its run. -/
theorem final2 (c : Dev nD) : (dats m 0 c).arrAt 2 (cfgs 0).N = REF2 (m ((c : Thread nD τ).loc main_arg0)) (m ((c : Thread nD τ).loc main_arg1)) := by
  refine (dats m 0 c).arrAt_eq_of_after_last 2 t0_0 (by decide +kernel) _ fun j => ?_
  blk_simp
  rw [after0_2]; unfold out0_2 k0_pay8 k0_pay7; frame_out
  exact whole2 m c j

/-- The reference's array of scales after its run. -/
theorem final3 (c : Dev nD) : (dats m 0 c).arrAt 3 (cfgs 0).N = REF3 (m ((c : Thread nD τ).loc main_arg0)) (m ((c : Thread nD τ).loc main_arg1)) := by
  refine (dats m 0 c).arrAt_eq_of_after_last 3 t0_0 (by decide +kernel) _ fun j => ?_
  blk_simp
  rw [after0_3]; unfold out0_3 k0_pay8 k0_pay7; frame_out
  exact whole3 m c j

end Cert.LnRefIdeal.Hand

namespace Cert.LnIdeal.Hand

open Cert.LnIdeal Cert.LnIdeal.Gen Cert.LnClaims

/-- A row's largest normalised value. -/
theorem top_at (X : FVec Ideal S128x5120 .bf16) (W : FVec Ideal S1x5120 .f32) (r : Fin 128) :
    k0_pay3 (F := Ideal) X W (ix2 r 0) = rowmax (norm (fun k => X (ix2 r k)) (fun k => W (ix2 0 k))) :=
  (amax_at (k0_pay2 (F := Ideal) X W) r).trans (congrArg rowmax (funext fun k => norm_at X W r k))

/-- The kernel's exponent of a row. -/
theorem exp_at (X : FVec Ideal S128x5120 .bf16) (W : FVec Ideal S1x5120 .f32) (r : Fin 128) :
    k0_pay7 (F := Ideal) (k0_pay3 (F := Ideal) X W) (k0_pay4 (F := Ideal) X W) (k0_pay5 (F := Ideal) X W) k0_pay6 (ix2 r 0)
    = Cert.Quant.kexp (rowmax (norm (fun k => X (ix2 r k)) (fun k => W (ix2 0 k)))) :=
  (kE_at (k0_pay3 (F := Ideal) X W) r).trans (congrArg _ (top_at X W r))

/-- The body's first result at an index of its block. -/
theorem body2_at (X : FVec Ideal S128x5120 .bf16) (W : FVec Ideal S1x5120 .f32) (r : Fin 128) (j : Fin 5120) :
    k0_pay1 (F := Ideal) (k0_pay9 (k0_pay2 (F := Ideal) X W) (k0_pay3 (F := Ideal) X W) (k0_pay4 (F := Ideal) X W) (k0_pay5 (F := Ideal) X W) k0_pay6) k0_pay10 (ix2 r j)
    = Cert.LnRefIdeal.Hand.codes (fun k => X (ix2 r k)) (fun k => W (ix2 0 k)) j :=
  (code_at _ _ _ _ _ r j).trans ((congrArg₂ (fun a b => code a (Cert.Quant.kscale (IntOp.subi 0#32 b))) (norm_at X W r j) (exp_at X W r)).trans
    (congrArg (code _) (Cert.Quant.quant _).2))

/-- The body's second result at an index of its block. -/
theorem body3_at (X : FVec Ideal S128x5120 .bf16) (W : FVec Ideal S1x5120 .f32) (r : Fin 128) :
    k0_pay8 (F := Ideal) (k0_pay3 (F := Ideal) X W) (k0_pay4 (F := Ideal) X W) (k0_pay5 (F := Ideal) X W) k0_pay6 (ix2 r 0)
    = Cert.LnRefIdeal.Hand.scale (fun k => X (ix2 r k)) (fun k => W (ix2 0 k)) :=
  (scale_at _ _ _ _ r).trans ((congrArg Cert.Quant.kscale (exp_at X W r)).trans (Cert.Quant.quant _).1)

variable (m : (ℓ : Loc nD τ sig) → Buf (Elt Ideal) ℓ)

/-- The blocks' places: row block `t` of x and of the results, the whole array of weights. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem row_lt (t : Fin cfg0.N) (r : Fin 128) : t.val * 128 + r.val < 512 := by
  have h : t.val < 4 := t.isLt
  have h' := r.isLt
  omega

/-- The row of the array that a block's row is. -/
def rowOf (t : Fin cfg0.N) (r : Fin 128) : Fin 512 := ⟨t.val * 128 + r.val, row_lt t r⟩

theorem read0 (c : Dev nD) (t : Fin cfg0.N) (r : Fin 128) (k : Fin 5120) : (show FVec Ideal S128x5120 .bf16 from iblk m c 0 t) (ix2 r k)
    = (m ((c : Thread nD τ).loc main_arg0) : FVec Ideal S1x512x5120 .bf16) (ix3 0 (rowOf t r) k) := by
  blk_simp [iblk]
  entry_read
  pointwise
  blk_ext [idx t, rowOf]

theorem read1 (c : Dev nD) (t : Fin cfg0.N) (k : Fin 5120) : (show FVec Ideal S1x5120 .f32 from iblk m c 1 t) (ix2 0 k)
    = (m ((c : Thread nD τ).loc main_arg1) : FVec Ideal S5120 .f32) (ix1 k) := by
  blk_simp [iblk]
  entry_read
  pointwise
  blk_ext [idx t]

theorem REF2_at (X : FVec Ideal S1x512x5120 .bf16) (W : FVec Ideal S5120 .f32) (r : Fin 512) (j : Fin 5120) :
    Cert.LnRefIdeal.Hand.REF2 X W (ix2 r j) = Cert.LnRefIdeal.Hand.codes (fun k => X (ix3 0 r k)) (fun k => W (ix1 k)) j := rfl

theorem REF3_at (X : FVec Ideal S1x512x5120 .bf16) (W : FVec Ideal S5120 .f32) (r : Fin 512) :
    Cert.LnRefIdeal.Hand.REF3 X W (ix2 r 0) = Cert.LnRefIdeal.Hand.scale (fun k => X (ix3 0 r k)) (fun k => W (ix1 k)) := rfl

/-- What the body stores as codes at an index of point `t`'s block is the reference's code where that index lies in the array. -/
theorem point2 (c : Dev nD) (t : Fin cfg0.N) (y : S128x5120.Idx) :
    k0_pay1 (F := Ideal) (k0_pay9 (k0_pay2 (F := Ideal) (iblk m c 0 t) (iblk m c 1 t)) (k0_pay3 (F := Ideal) (iblk m c 0 t) (iblk m c 1 t))
        (k0_pay4 (F := Ideal) (iblk m c 0 t) (iblk m c 1 t)) (k0_pay5 (F := Ideal) (iblk m c 0 t) (iblk m c 1 t)) k0_pay6) k0_pay10 y
    = Cert.LnRefIdeal.Hand.REF2 (m ((c : Thread nD τ).loc main_arg0)) (m ((c : Thread nD τ).loc main_arg1)) (((cfg0.win 2).blk t).view.emb y) := by
  idx_vars y
  have e : (((cfg0.win 2).blk t).view.emb (ix2 y0 y1)) = ix2 (rowOf t y0) y1 := by
    blk_ext [idx t, rowOf]
  rw [e, REF2_at]
  exact (body2_at _ _ _ _).trans (congrArg₂ (fun x w => Cert.LnRefIdeal.Hand.codes x w y1) (funext fun k => read0 m c t _ k) (funext fun k => read1 m c t k))

/-- What the body stores as scales at an index of point `t`'s block is the reference's scale where that index lies in the array. -/
theorem point3 (c : Dev nD) (t : Fin cfg0.N) (y : S128x1.Idx) :
    k0_pay8 (F := Ideal) (k0_pay3 (F := Ideal) (iblk m c 0 t) (iblk m c 1 t)) (k0_pay4 (F := Ideal) (iblk m c 0 t) (iblk m c 1 t))
        (k0_pay5 (F := Ideal) (iblk m c 0 t) (iblk m c 1 t)) k0_pay6 y
    = Cert.LnRefIdeal.Hand.REF3 (m ((c : Thread nD τ).loc main_arg0)) (m ((c : Thread nD τ).loc main_arg1)) (((cfg0.win 3).blk t).view.emb y) := by
  idx_vars y
  obtain rfl : y1 = 0 := Subsingleton.elim _ _
  have e : (((cfg0.win 3).blk t).view.emb (ix2 y0 0)) = ix2 (rowOf t y0) 0 := by
    blk_ext [idx t, rowOf]
  rw [e, REF3_at]
  exact (body3_at _ _ _).trans (congrArg₂ Cert.LnRefIdeal.Hand.scale (funext fun k => read0 m c t _ k) (funext fun k => read1 m c t k))

/-- The array of codes after the run. -/
theorem final2 (c : Dev nD) : (dats m 0 c).arrAt 2 (cfgs 0).N
    = Cert.LnRefIdeal.Hand.REF2 (m ((c : Thread nD τ).loc main_arg0)) (m ((c : Thread nD τ).loc main_arg1)) := by
  refine (dats m 0 c).arrAt_eq_of_covers 2 _ (by decide +kernel) fun t _ y => ?_
  blk_simp
  rw [after0_2]; unfold out0_2 k0_pay14 k0_pay13 k0_pay12 k0_pay11; frame_out
  exact point2 m c t y

/-- The array of scales after the run. -/
theorem final3 (c : Dev nD) : (dats m 0 c).arrAt 3 (cfgs 0).N
    = Cert.LnRefIdeal.Hand.REF3 (m ((c : Thread nD τ).loc main_arg0)) (m ((c : Thread nD τ).loc main_arg1)) := by
  refine (dats m 0 c).arrAt_eq_of_covers 3 _ (by decide +kernel) fun t _ y => ?_
  blk_simp
  rw [after0_3]; unfold out0_3 k0_pay14 k0_pay13 k0_pay12 k0_pay11; frame_out
  exact point3 m c t y

end Cert.LnIdeal.Hand

namespace Cert.LnClaims

set_option maxHeartbeats 2000000 in
/-- At the ideal instance the kernel computes the reference's two functions. -/
theorem algebraic : Cert.algebraic_LnIdeal_LnRefIdeal := by
  pair_intro
  · run_from Cert.LnIdeal.Gen.run_main m g
  · run_from Cert.LnRefIdeal.Gen.run_main m' g'
    · refine (Cert.LnRefIdeal.Hand.final2 m' c).trans (Eq.trans ?_ (Cert.LnIdeal.Hand.final2 m c).symm)
      rw [(hagree c).1, (hagree c).2]
    · refine (Cert.LnRefIdeal.Hand.final3 m' c).trans (Eq.trans ?_ (Cert.LnIdeal.Hand.final3 m c).symm)
      rw [(hagree c).1, (hagree c).2]

end Cert.LnClaims

end
-- ==== Proof.Gu.lean ====
/-
  The gated product: the kernel's nine blocks of 768 columns, and the reference's one product over all columns, are one
  function of the arguments at the ideal instance.
-/
module

public import proofs.«01_k».proof.Defs
public import proofs.«01_k».proof.Proof.Gen.GuIdeal.Frame
public import proofs.«01_k».proof.Proof.Gen.GuRefIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GuIdeal.Hand

open Cert.GuIdeal Cert.GuIdeal.Gen

variable (m : (ℓ : Loc nD τ sig) → Buf (Elt Ideal) ℓ)

/-- The reference's result as a function of the four argument arrays. -/
def REF (X : FVec Ideal S512x5120 .fp8e4m3) (S : FVec Ideal S512x1 .f32) (W : FVec Ideal S5120x13824 .fp8e4m3)
    (C : FVec Ideal S1x13824 .f32) : FVec Ideal S512x6912 .f32 :=
  Cert.GuRefIdeal.Gen.k0_pay1 (F := Ideal) X W S C

/-- The blocks' places: rows and the shared operands stay, the gate columns are block `t`, the up columns block `9 + t`. -/
theorem idx : ∀ t : Fin cfg0.N, win0_0.index t = ![0, 0] ∧ win0_1.index t = ![0, 0] ∧ win0_2.index t = ![0, t.val]
    ∧ win0_3.index t = ![0, 9 + t.val] ∧ win0_4.index t = ![0, t.val] ∧ win0_5.index t = ![0, 9 + t.val] ∧ win0_6.index t = ![0, t.val] :=
  (by decide +kernel : ∀ t : Fin grid0.N, _)

/-- What the body stores at an index of point `t`'s block is the reference's result where that index lies in the array. -/
theorem point (c : Dev nD) (t : Fin cfg0.N) (y : S512x768.Idx) :
    k0_pay1 (iblk m c 0 t) (iblk m c 2 t) (iblk m c 1 t) (iblk m c 4 t) (iblk m c 3 t) (iblk m c 1 t) (iblk m c 5 t) y
    = REF (m ((c : Thread nD τ).loc main_arg0)) (m ((c : Thread nD τ).loc main_arg1)) (m ((c : Thread nD τ).loc main_arg2))
        (m ((c : Thread nD τ).loc main_arg3)) (((cfg0.win 6).blk t).view.emb y) := by
  pointwise [k0_pay1, REF, Cert.GuRefIdeal.Gen.k0_pay1]
  blk_point [iblk, V, idx t]

/-- The result array after the run. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]; frame_out
  exact point m c t y

end Cert.GuIdeal.Hand

namespace Cert.GuClaims

/-- At the ideal instance the kernel computes the reference's function. -/
theorem algebraic : Cert.algebraic_GuIdeal_GuRefIdeal := by
  pair_intro
  · run_from Cert.GuIdeal.Gen.run_main m g
  · run_from Cert.GuRefIdeal.Value.run m' g'
    exact (Cert.GuIdeal.Hand.final m c).symm

end Cert.GuClaims

end
-- ==== Proof.OutFrame.lean ====
/- The frame of the output call. -/
module

public import proofs.«01_k».proof.Proof.Gen.Out.Frame
public import proofs.«01_k».proof.Proof.Gen.Out.Skeleton
public import Idealize.ShloMosaic.Lib.Pipeline.TableIdle
public import Idealize.ShloMosaic.Lib.Claim

@[expose] public section

set_option maxRecDepth 16384

noncomputable section

namespace Cert.Out.Hand

open Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body quantises h. -/
abbrev cond0_0 (i : grid0.Coords) : Prop := k0_cond1 i = 1#1

/-- It holds at the first point only. -/
theorem hcond0_0 : ∀ t : Fin cfg0.N, cond0_0 (grid0.coords t) ↔ t.val = 0 :=
  (fun t => by
    have ht : t.val < 10 := Nat.lt_of_lt_of_eq t.isLt N_0
    have e0 : (grid0.coords t 0).val = t.val / 1 % 10 := Pipeline.Grid.coords_val t 0 (by decide) rfl
    have e1 : t.val = 0 ↔ t.val % 10 = 0 := by omega
    rw [e1]
    simp only [cond0_0, k0_cond1, e0]
    word_cmp
   : ∀ t : Fin grid0.N, cond0_0 (grid0.coords t) ↔ t.val = 0)

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl
theorem live0_6 : ∀ t : Fin cfg0.N, cfg0.idle 6 (grid0.coords t) = false := fun _ => rfl
theorem live0_7 : ∀ t : Fin cfg0.N, cfg0.idle 7 (grid0.coords t) = false := fun _ => rfl
theorem live0_8 : ∀ t : Fin cfg0.N, cfg0.idle 8 (grid0.coords t) = false := fun _ => rfl
theorem live0_9 : ∀ t : Fin cfg0.N, cond0_0 (grid0.coords t) → cfg0.idle 9 (grid0.coords t) = false := fun t h => by
  show (!(k0_cond1 (grid0.coords t) == 1#1)) = false
  rw [show k0_cond1 (grid0.coords t) = 1#1 from h]; rfl
theorem idle0_9 : ∀ t : Fin cfg0.N, ¬cond0_0 (grid0.coords t) → cfg0.idle 9 (grid0.coords t) = true := fun t h => by
  show (!(k0_cond1 (grid0.coords t) == 1#1)) = true
  rw [Bool.not_eq_true', beq_eq_false_iff_ne]; exact h
/-- Window 9's buffer holds nothing stored only at the first point. -/
theorem fresh0_9 : ∀ t : Fin cfg0.N, cfg0.fresh 9 t.val = decide (t.val = 0) :=
  (by decide +kernel : ∀ t : Fin grid0.N, _)
theorem live0_10 : ∀ t : Fin cfg0.N, cond0_0 (grid0.coords t) → cfg0.idle 10 (grid0.coords t) = false := fun t h => by
  show (!(k0_cond1 (grid0.coords t) == 1#1)) = false
  rw [show k0_cond1 (grid0.coords t) = 1#1 from h]; rfl
theorem idle0_10 : ∀ t : Fin cfg0.N, ¬cond0_0 (grid0.coords t) → cfg0.idle 10 (grid0.coords t) = true := fun t h => by
  show (!(k0_cond1 (grid0.coords t) == 1#1)) = true
  rw [Bool.not_eq_true', beq_eq_false_iff_ne]; exact h
/-- Window 10's buffer holds nothing stored only at the first point. -/
theorem fresh0_10 : ∀ t : Fin cfg0.N, cfg0.fresh 10 t.val = decide (t.val = 0) :=
  (by decide +kernel : ∀ t : Fin grid0.N, _)
abbrev ms0_0 (t : Fin cfg0.N) : Memref sig .tc .vmem S512x512 .bf16 := win0_0.stage (cfg0.slots t 0)
abbrev ms0_1 (t : Fin cfg0.N) : Memref sig .tc .vmem S512x6912 .f32 := win0_1.stage (cfg0.slots t 1)
abbrev ms0_2 (t : Fin cfg0.N) : Memref sig .tc .vmem S512x2560 .fp8e4m3 := win0_2.stage (cfg0.slots t 2)
abbrev ms0_3 (t : Fin cfg0.N) : Memref sig .tc .vmem S512x1 .f32 := win0_3.stage (cfg0.slots t 3)
abbrev ms0_4 (t : Fin cfg0.N) : Memref sig .tc .vmem S2560x512 .fp8e4m3 := win0_4.stage (cfg0.slots t 4)
abbrev ms0_5 (t : Fin cfg0.N) : Memref sig .tc .vmem S1x512 .f32 := win0_5.stage (cfg0.slots t 5)
abbrev ms0_6 (t : Fin cfg0.N) : Memref sig .tc .vmem S6912x512 .fp8e4m3 := win0_6.stage (cfg0.slots t 6)
abbrev ms0_7 (t : Fin cfg0.N) : Memref sig .tc .vmem S1x512 .f32 := win0_7.stage (cfg0.slots t 7)
abbrev ms0_8 (t : Fin cfg0.N) : Memref sig .tc .vmem S512x512 .bf16 := win0_8.stage (cfg0.slots t 8)
abbrev ms0_9 (t : Fin cfg0.N) : Memref sig .tc .vmem S512x6912 .fp8e4m3 := win0_9.stage (cfg0.slots t 9)
abbrev ms0_10 (t : Fin cfg0.N) : Memref sig .tc .vmem S512x1 .f32 := win0_10.stage (cfg0.slots t 10)
/-- The whole of a buffer of this shape. -/
abbrev r_S1x512 : Rect S1x512 := Rect.unit (s := S1x512) ![0, 0] S1x512.size inb_S1x512_S1x512_0_0
/-- The whole of a buffer of this shape. -/
abbrev r_S2560x512 : Rect S2560x512 := Rect.unit (s := S2560x512) ![0, 0] S2560x512.size inb_S2560x512_S2560x512_0_0
/-- The whole of a buffer of this shape. -/
abbrev r_S512x1 : Rect S512x1 := Rect.unit (s := S512x1) ![0, 0] S512x1.size inb_S512x1_S512x1_0_0
/-- The whole of a buffer of this shape. -/
abbrev r_S512x2560 : Rect S512x2560 := Rect.unit (s := S512x2560) ![0, 0] S512x2560.size inb_S512x2560_S512x2560_0_0
/-- The whole of a buffer of this shape. -/
abbrev r_S512x512 : Rect S512x512 := Rect.unit (s := S512x512) ![0, 0] S512x512.size inb_S512x512_S512x512_0_0
/-- The whole of a buffer of this shape. -/
abbrev r_S512x6912 : Rect S512x6912 := Rect.unit (s := S512x6912) ![0, 0] S512x6912.size inb_S512x6912_S512x6912_0_0
/-- The whole of a buffer of this shape. -/
abbrev r_S6912x512 : Rect S6912x512 := Rect.unit (s := S6912x512) ![0, 0] S6912x512.size inb_S6912x512_S6912x512_0_0

/-- The codes of the quantised h. -/
def hc (x1 : Vec F S512x6912 .f32) : Vec F S512x6912 .fp8e4m3 :=
  k0_pay2 (k0_pay4 (View.ld x1 r_S512x6912)) (View.ld x1 r_S512x6912)

/-- Its scales. -/
def hsc (x1 : Vec F S512x6912 .f32) : Vec F S512x1 .f32 :=
  k0_pay1 (F := F) (k0_pay5 (View.ld x1 r_S512x6912))

/-- What is left in window 9's buffer. -/
def out0_9 (x1 : Vec F S512x6912 .f32) : Vec F S512x6912 .fp8e4m3 := View.canon [⟨r_S512x6912, hc x1⟩]

/-- What is left in window 10's buffer. -/
def out0_10 (x1 : Vec F S512x6912 .f32) : Vec F S512x1 .f32 := View.canon [⟨r_S512x1, hsc x1⟩]

/-- What is left in window 8's buffer. -/
def out0_8 (x0 : Vec F S512x512 .bf16) (x1 : Vec F S512x6912 .f32) (x2 : Vec F S512x2560 .fp8e4m3) (x3 : Vec F S512x1 .f32) (x4 : Vec F S2560x512 .fp8e4m3) (x5 : Vec F S1x512 .f32) (x6 : Vec F S6912x512 .fp8e4m3) (x7 : Vec F S1x512 .f32) : Vec F S512x512 .bf16 :=
  View.canon [⟨r_S512x512, k0_pay3 (View.ld x2 r_S512x2560) (View.ld x4 r_S2560x512) (View.ld x3 r_S512x1) (View.ld x5 r_S1x512) (hc x1) (View.ld x6 r_S6912x512) (hsc x1) (View.ld x7 r_S1x512) (View.ld x0 r_S512x512)⟩]

theorem cover_S512x512 (p0 : Vec F S512x512 .bf16) (y : S512x512.Idx) :
    ∃ pc ∈ ([⟨r_S512x512, p0⟩] : List (View.Piece (Elt F) S512x512 .bf16)), y ∈ pc.1.set :=
  View.cover_of_tiled [⟨r_S512x512, p0⟩] S512x512.size (by rfl) y
theorem ld_S512x512 (p0 : Vec F S512x512 .bf16) : View.ld (View.canon [⟨r_S512x512, p0⟩] : Vec F S512x512 .bf16) r_S512x512 = p0 :=
  funext fun j => View.canon_cons_emb r_S512x512 p0 [] j

theorem cover_S512x6912 (p0 : Vec F S512x6912 .fp8e4m3) (y : S512x6912.Idx) :
    ∃ pc ∈ ([⟨r_S512x6912, p0⟩] : List (View.Piece (Elt F) S512x6912 .fp8e4m3)), y ∈ pc.1.set :=
  View.cover_of_tiled [⟨r_S512x6912, p0⟩] S512x6912.size (by rfl) y
theorem ld_S512x6912 (p0 : Vec F S512x6912 .fp8e4m3) : View.ld (View.canon [⟨r_S512x6912, p0⟩] : Vec F S512x6912 .fp8e4m3) r_S512x6912 = p0 :=
  funext fun j => View.canon_cons_emb r_S512x6912 p0 [] j

theorem cover_S512x1 (p0 : Vec F S512x1 .f32) (y : S512x1.Idx) :
    ∃ pc ∈ ([⟨r_S512x1, p0⟩] : List (View.Piece (Elt F) S512x1 .f32)), y ∈ pc.1.set :=
  View.cover_of_tiled [⟨r_S512x1, p0⟩] S512x1.size (by rfl) y
theorem ld_S512x1 (p0 : Vec F S512x1 .f32) : View.ld (View.canon [⟨r_S512x1, p0⟩] : Vec F S512x1 .f32) r_S512x1 = p0 :=
  funext fun j => View.canon_cons_emb r_S512x1 p0 [] j

set_option maxHeartbeats 1000000 in
/-- The body's triple at the first point, which quantises h. -/
theorem kernelRun0_A (c : Dev nD) (i : grid0.Coords) (arg1 : Memref sig .tc .vmem S512x512 .bf16) (harg1 : arg1.IsWhole) (arg2 : Memref sig .tc .vmem S512x6912 .f32) (harg2 : arg2.IsWhole) (arg3 : Memref sig .tc .vmem S512x2560 .fp8e4m3) (harg3 : arg3.IsWhole) (arg4 : Memref sig .tc .vmem S512x1 .f32) (harg4 : arg4.IsWhole) (arg5 : Memref sig .tc .vmem S2560x512 .fp8e4m3) (harg5 : arg5.IsWhole) (arg6 : Memref sig .tc .vmem S1x512 .f32) (harg6 : arg6.IsWhole) (arg7 : Memref sig .tc .vmem S6912x512 .fp8e4m3) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x6912 .fp8e4m3) (harg10 : arg10.IsWhole) (arg11 : Memref sig .tc .vmem S512x1 .f32) (harg11 : arg11.IsWhole) (hc0 : cond0_0 i)
    (x0 : Vec F S512x512 .bf16) (x1 : Vec F S512x6912 .f32) (x2 : Vec F S512x2560 .fp8e4m3) (x3 : Vec F S512x1 .f32) (x4 : Vec F S2560x512 .fp8e4m3) (x5 : Vec F S1x512 .f32) (x6 : Vec F S6912x512 .fp8e4m3) (x7 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x1) ∗ owns (c : Thread nD τ) arg11 fullShare (out0_10 x1)) -∗ K ⟨⟩))
      ⊢ wp frame (wpE (defs₀ (F := F)) Variants.none c none) E (cc0__out_kernel i arg1 harg1 arg2 harg2 arg3 harg3 arg4 harg4 arg5 harg5 arg6 harg6 arg7 harg7 arg8 harg8 arg9 harg9 arg10 harg10 arg11 harg11) K := by
  simp only [cc0__out_kernel_eq_skeleton]; unfold cc0__out_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    refine (View.read_writes_eq_canon _ _ _ (cover_S512x512 _)).trans ?_
    have er : kernelRun0_A.sl.r c arg2 harg2 x1 = k0_pay4 (View.ld x1 r_S512x6912) := by
      unfold kernelRun0_A.sl.r; rw [View.readAt_eq_ld, hf1]
    have er1 : kernelRun0_A.sl.r_1 c arg2 harg2 x1 = k0_pay5 (View.ld x1 r_S512x6912) := by
      unfold kernelRun0_A.sl.r_1; rw [View.readAt_eq_ld, hf1]
    have e12 : kernelRun0_A.sl.v12 c arg2 harg2 arg10 x1 = hc x1 := by
      unfold kernelRun0_A.sl.v12
      refine (View.readCov_cons_toLoadRect _ _ _ _).trans ?_
      rw [er, View.readAt_eq_ld, hf1]; rfl
    have e16 : kernelRun0_A.sl.v16 c arg2 harg2 arg11 x1 = hsc x1 := by
      unfold kernelRun0_A.sl.v16
      refine (View.readCov_cons_toLoadRect _ _ _ _).trans ?_
      rw [er1]; rfl
    simp only [View.readAt_eq_ld, hf0, hf1, hf2, hf3, hf4, hf5, hf6, hf7]
    rw [e12, e16]; rfl
  isplitl [H9]
  · iexists _; isplitr; swap; · iexact H9
    ipureintro
    refine (View.read_writes_eq_canon _ _ _ (cover_S512x6912 _)).trans ?_
    have er : kernelRun0_A.sl.r c arg2 harg2 x1 = k0_pay4 (View.ld x1 r_S512x6912) := by
      unfold kernelRun0_A.sl.r; rw [View.readAt_eq_ld, hf1]
    rw [er, View.readAt_eq_ld, hf1]; rfl
  iexists _; isplitr; swap; · iexact H10
  ipureintro
  refine (View.read_writes_eq_canon _ _ _ (cover_S512x1 _)).trans ?_
  have er1 : kernelRun0_A.sl.r_1 c arg2 harg2 x1 = k0_pay5 (View.ld x1 r_S512x6912) := by
    unfold kernelRun0_A.sl.r_1; rw [View.readAt_eq_ld, hf1]
  rw [er1]; rfl

set_option maxHeartbeats 1000000 in
/-- The body's triple at a later point, which reads the quantised h back. -/
theorem kernelRun0_B (c : Dev nD) (i : grid0.Coords) (arg1 : Memref sig .tc .vmem S512x512 .bf16) (harg1 : arg1.IsWhole) (arg2 : Memref sig .tc .vmem S512x6912 .f32) (harg2 : arg2.IsWhole) (arg3 : Memref sig .tc .vmem S512x2560 .fp8e4m3) (harg3 : arg3.IsWhole) (arg4 : Memref sig .tc .vmem S512x1 .f32) (harg4 : arg4.IsWhole) (arg5 : Memref sig .tc .vmem S2560x512 .fp8e4m3) (harg5 : arg5.IsWhole) (arg6 : Memref sig .tc .vmem S1x512 .f32) (harg6 : arg6.IsWhole) (arg7 : Memref sig .tc .vmem S6912x512 .fp8e4m3) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x6912 .fp8e4m3) (harg10 : arg10.IsWhole) (arg11 : Memref sig .tc .vmem S512x1 .f32) (harg11 : arg11.IsWhole) (hc0 : ¬cond0_0 i)
    (x0 : Vec F S512x512 .bf16) (x1 : Vec F S512x6912 .f32) (x2 : Vec F S512x2560 .fp8e4m3) (x3 : Vec F S512x1 .f32) (x4 : Vec F S2560x512 .fp8e4m3) (x5 : Vec F S1x512 .f32) (x6 : Vec F S6912x512 .fp8e4m3) (x7 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare (out0_9 x1) ∗ owns (c : Thread nD τ) arg11 fullShare (out0_10 x1)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x1) ∗ owns (c : Thread nD τ) arg11 fullShare (out0_10 x1)) -∗ K ⟨⟩))
      ⊢ wp frame (wpE (defs₀ (F := F)) Variants.none c none) E (cc0__out_kernel i arg1 harg1 arg2 harg2 arg3 harg3 arg4 harg4 arg5 harg5 arg6 harg6 arg7 harg7 arg8 harg8 arg9 harg9 arg10 harg10 arg11 harg11) K := by
  simp only [cc0__out_kernel_eq_skeleton]; unfold cc0__out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    refine (View.read_writes_eq_canon _ _ _ (cover_S512x512 _)).trans ?_
    simp only [View.readAt_eq_ld, hf0, hf1, hf2, hf3, hf4, hf5, hf6, hf7, hf9, hf10]
    unfold out0_8 out0_9 out0_10
    rw [ld_S512x6912, ld_S512x1]
  isplitl [H9]
  · iexists _; isplitr; · ipureintro; exact harg10.read_unread _
    iexact H9
  iexists _; isplitr; · ipureintro; exact harg11.read_unread _
  iexact H10

/-- The proof data of the pipeline: every input's buffer at its block, the first output's at the block of the result,
    the other two at the quantised h from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 1 t)
    | ⟨10, _⟩ => out0_10 (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 1 t) := by dsimp only [dats]
theorem after0_10 (c : Dev nD) (t : Fin cfg0.N) : (dats m 0 c).after 10 t = out0_10 (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The block of h is the same at every point. -/
theorem iblk_h (c : Dev nD) (t t' : Fin cfg0.N) : (iblk m c 1 t : Vec F S512x6912 .f32) = iblk m c 1 t' := rfl

theorem before0_9 (c : Dev nD) (t : Fin cfg0.N) (h : t.val ≠ 0) (d) : (dats m 0 c).before 9 t d = out0_9 (iblk m c 1 t) := by
  rw [(dats m 0 c).before_out_traj 9 rfl (fun _ _ => rfl) (fun t _ _ _ => by rw [after0_9, after0_9]; rfl) t.val t rfl d,
    fresh0_9 t, decide_eq_false h, if_neg Bool.false_ne_true, after0_9]
  rfl

/-- The buffer handed back at a later point is what the obligation asks for. -/
theorem leave0_9 (c : Dev nD) (t : Fin cfg0.N) (h : t.val ≠ 0) :
    owns (c : Thread nD τ) (ms0_9 t) fullShare (out0_9 (iblk m c 1 t)) ⊢ (dats m 0 c).leavesExact 9 t := by
  unfold Dat.leavesExact
  rw [idle0_9 t (fun hc => h ((hcond0_0 t).mp hc))]
  cases hf : (cfg0.win 9).flush t
  · dsimp only
    iintro H
    iexists (out0_9 (iblk m c 1 t))
    rw [before0_9 m c t h]
    iexact H
  · dsimp only
    rw [after0_9]

theorem before0_10 (c : Dev nD) (t : Fin cfg0.N) (h : t.val ≠ 0) (d) : (dats m 0 c).before 10 t d = out0_10 (iblk m c 1 t) := by
  rw [(dats m 0 c).before_out_traj 10 rfl (fun _ _ => rfl) (fun t _ _ _ => by rw [after0_10, after0_10]; rfl) t.val t rfl d,
    fresh0_10 t, decide_eq_false h, if_neg Bool.false_ne_true, after0_10]
  rfl

/-- The buffer handed back at a later point is what the obligation asks for. -/
theorem leave0_10 (c : Dev nD) (t : Fin cfg0.N) (h : t.val ≠ 0) :
    owns (c : Thread nD τ) (ms0_10 t) fullShare (out0_10 (iblk m c 1 t)) ⊢ (dats m 0 c).leavesExact 10 t := by
  unfold Dat.leavesExact
  rw [idle0_10 t (fun hc => h ((hcond0_0 t).mp hc))]
  cases hf : (cfg0.win 10).flush t
  · dsimp only
    iintro H
    iexists (out0_10 (iblk m c 1 t))
    rw [before0_10 m c t h]
    iexact H
  · dsimp only
    rw [after0_10]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem lv0_0 (c : Dev nD) (t : Fin cfg0.N) : (dats m 0 c).leavesExact 0 t = owns (c : Thread nD τ) (ms0_0 t) fullShare ((dats m 0 c).after 0 t) := by
  unfold Dat.leavesExact; rw [live0_0 t]
theorem lv0_1 (c : Dev nD) (t : Fin cfg0.N) : (dats m 0 c).leavesExact 1 t = owns (c : Thread nD τ) (ms0_1 t) fullShare ((dats m 0 c).after 1 t) := by
  unfold Dat.leavesExact; rw [live0_1 t]
theorem lv0_2 (c : Dev nD) (t : Fin cfg0.N) : (dats m 0 c).leavesExact 2 t = owns (c : Thread nD τ) (ms0_2 t) fullShare ((dats m 0 c).after 2 t) := by
  unfold Dat.leavesExact; rw [live0_2 t]
theorem lv0_3 (c : Dev nD) (t : Fin cfg0.N) : (dats m 0 c).leavesExact 3 t = owns (c : Thread nD τ) (ms0_3 t) fullShare ((dats m 0 c).after 3 t) := by
  unfold Dat.leavesExact; rw [live0_3 t]
theorem lv0_4 (c : Dev nD) (t : Fin cfg0.N) : (dats m 0 c).leavesExact 4 t = owns (c : Thread nD τ) (ms0_4 t) fullShare ((dats m 0 c).after 4 t) := by
  unfold Dat.leavesExact; rw [live0_4 t]
theorem lv0_5 (c : Dev nD) (t : Fin cfg0.N) : (dats m 0 c).leavesExact 5 t = owns (c : Thread nD τ) (ms0_5 t) fullShare ((dats m 0 c).after 5 t) := by
  unfold Dat.leavesExact; rw [live0_5 t]
theorem lv0_6 (c : Dev nD) (t : Fin cfg0.N) : (dats m 0 c).leavesExact 6 t = owns (c : Thread nD τ) (ms0_6 t) fullShare ((dats m 0 c).after 6 t) := by
  unfold Dat.leavesExact; rw [live0_6 t]
theorem lv0_7 (c : Dev nD) (t : Fin cfg0.N) : (dats m 0 c).leavesExact 7 t = owns (c : Thread nD τ) (ms0_7 t) fullShare ((dats m 0 c).after 7 t) := by
  unfold Dat.leavesExact; rw [live0_7 t]
theorem lv0_8 (c : Dev nD) (t : Fin cfg0.N) : (dats m 0 c).leavesExact 8 t = owns (c : Thread nD τ) (ms0_8 t) fullShare ((dats m 0 c).after 8 t) := by
  unfold Dat.leavesExact; rw [live0_8 t]
theorem lv0_9 (c : Dev nD) (t : Fin cfg0.N) (h : t.val = 0) : (dats m 0 c).leavesExact 9 t = owns (c : Thread nD τ) (ms0_9 t) fullShare ((dats m 0 c).after 9 t) := by
  unfold Dat.leavesExact; rw [live0_9 t ((hcond0_0 t).mpr h)]
theorem lv0_10 (c : Dev nD) (t : Fin cfg0.N) (h : t.val = 0) : (dats m 0 c).leavesExact 10 t = owns (c : Thread nD τ) (ms0_10 t) fullShare ((dats m 0 c).after 10 t) := by
  unfold Dat.leavesExact; rw [live0_10 t ((hcond0_0 t).mpr h)]

set_option maxHeartbeats 1600000 in
/-- The body at any point, by whether it is the first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    lv0_0, lv0_1, lv0_2, lv0_3, lv0_4, lv0_5, lv0_6, lv0_7, lv0_8,
    after0_0, after0_1, after0_2, after0_3, after0_4, after0_5, after0_6, after0_7, after0_8]
  by_cases h0 : t.val = 0
  · rw [lv0_9 m c t h0, lv0_10 m c t h0, after0_9, after0_10]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before0_9 m c t h0, before0_10 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leave0_9 m c t h0); iexact H9
    iapply (leave0_10 m c t h0); iexact H10

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends with the arrays at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Out.Hand

end
-- ==== Proof.OutIdealFrame.lean ====
/- The frame of the output call. -/
module

public import proofs.«01_k».proof.Proof.Gen.OutIdeal.Frame
public import proofs.«01_k».proof.Proof.Gen.OutIdeal.Skeleton
public import Idealize.ShloMosaic.Lib.Pipeline.TableIdle
public import Idealize.ShloMosaic.Lib.Claim

@[expose] public section

set_option maxRecDepth 16384

noncomputable section

namespace Cert.OutIdeal.Hand

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body quantises h. -/
abbrev cond0_0 (i : grid0.Coords) : Prop := k0_cond1 i = 1#1

/-- It holds at the first point only. -/
theorem hcond0_0 : ∀ t : Fin cfg0.N, cond0_0 (grid0.coords t) ↔ t.val = 0 :=
  (fun t => by
    have ht : t.val < 10 := Nat.lt_of_lt_of_eq t.isLt N_0
    have e0 : (grid0.coords t 0).val = t.val / 1 % 10 := Pipeline.Grid.coords_val t 0 (by decide) rfl
    have e1 : t.val = 0 ↔ t.val % 10 = 0 := by omega
    rw [e1]
    simp only [cond0_0, k0_cond1, e0]
    word_cmp
   : ∀ t : Fin grid0.N, cond0_0 (grid0.coords t) ↔ t.val = 0)

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl
theorem live0_6 : ∀ t : Fin cfg0.N, cfg0.idle 6 (grid0.coords t) = false := fun _ => rfl
theorem live0_7 : ∀ t : Fin cfg0.N, cfg0.idle 7 (grid0.coords t) = false := fun _ => rfl
theorem live0_8 : ∀ t : Fin cfg0.N, cfg0.idle 8 (grid0.coords t) = false := fun _ => rfl
theorem live0_9 : ∀ t : Fin cfg0.N, cond0_0 (grid0.coords t) → cfg0.idle 9 (grid0.coords t) = false := fun t h => by
  show (!(k0_cond1 (grid0.coords t) == 1#1)) = false
  rw [show k0_cond1 (grid0.coords t) = 1#1 from h]; rfl
theorem idle0_9 : ∀ t : Fin cfg0.N, ¬cond0_0 (grid0.coords t) → cfg0.idle 9 (grid0.coords t) = true := fun t h => by
  show (!(k0_cond1 (grid0.coords t) == 1#1)) = true
  rw [Bool.not_eq_true', beq_eq_false_iff_ne]; exact h
/-- Window 9's buffer holds nothing stored only at the first point. -/
theorem fresh0_9 : ∀ t : Fin cfg0.N, cfg0.fresh 9 t.val = decide (t.val = 0) :=
  (by decide +kernel : ∀ t : Fin grid0.N, _)
theorem live0_10 : ∀ t : Fin cfg0.N, cond0_0 (grid0.coords t) → cfg0.idle 10 (grid0.coords t) = false := fun t h => by
  show (!(k0_cond1 (grid0.coords t) == 1#1)) = false
  rw [show k0_cond1 (grid0.coords t) = 1#1 from h]; rfl
theorem idle0_10 : ∀ t : Fin cfg0.N, ¬cond0_0 (grid0.coords t) → cfg0.idle 10 (grid0.coords t) = true := fun t h => by
  show (!(k0_cond1 (grid0.coords t) == 1#1)) = true
  rw [Bool.not_eq_true', beq_eq_false_iff_ne]; exact h
/-- Window 10's buffer holds nothing stored only at the first point. -/
theorem fresh0_10 : ∀ t : Fin cfg0.N, cfg0.fresh 10 t.val = decide (t.val = 0) :=
  (by decide +kernel : ∀ t : Fin grid0.N, _)
abbrev ms0_0 (t : Fin cfg0.N) : Memref sig .tc .vmem S512x512 .bf16 := win0_0.stage (cfg0.slots t 0)
abbrev ms0_1 (t : Fin cfg0.N) : Memref sig .tc .vmem S512x6912 .f32 := win0_1.stage (cfg0.slots t 1)
abbrev ms0_2 (t : Fin cfg0.N) : Memref sig .tc .vmem S512x2560 .fp8e4m3 := win0_2.stage (cfg0.slots t 2)
abbrev ms0_3 (t : Fin cfg0.N) : Memref sig .tc .vmem S512x1 .f32 := win0_3.stage (cfg0.slots t 3)
abbrev ms0_4 (t : Fin cfg0.N) : Memref sig .tc .vmem S2560x512 .fp8e4m3 := win0_4.stage (cfg0.slots t 4)
abbrev ms0_5 (t : Fin cfg0.N) : Memref sig .tc .vmem S1x512 .f32 := win0_5.stage (cfg0.slots t 5)
abbrev ms0_6 (t : Fin cfg0.N) : Memref sig .tc .vmem S6912x512 .fp8e4m3 := win0_6.stage (cfg0.slots t 6)
abbrev ms0_7 (t : Fin cfg0.N) : Memref sig .tc .vmem S1x512 .f32 := win0_7.stage (cfg0.slots t 7)
abbrev ms0_8 (t : Fin cfg0.N) : Memref sig .tc .vmem S512x512 .bf16 := win0_8.stage (cfg0.slots t 8)
abbrev ms0_9 (t : Fin cfg0.N) : Memref sig .tc .vmem S512x6912 .fp8e4m3 := win0_9.stage (cfg0.slots t 9)
abbrev ms0_10 (t : Fin cfg0.N) : Memref sig .tc .vmem S512x1 .f32 := win0_10.stage (cfg0.slots t 10)
/-- The whole of a buffer of this shape. -/
abbrev r_S1x512 : Rect S1x512 := Rect.unit (s := S1x512) ![0, 0] S1x512.size inb_S1x512_S1x512_0_0
/-- The whole of a buffer of this shape. -/
abbrev r_S2560x512 : Rect S2560x512 := Rect.unit (s := S2560x512) ![0, 0] S2560x512.size inb_S2560x512_S2560x512_0_0
/-- The whole of a buffer of this shape. -/
abbrev r_S512x1 : Rect S512x1 := Rect.unit (s := S512x1) ![0, 0] S512x1.size inb_S512x1_S512x1_0_0
/-- The whole of a buffer of this shape. -/
abbrev r_S512x2560 : Rect S512x2560 := Rect.unit (s := S512x2560) ![0, 0] S512x2560.size inb_S512x2560_S512x2560_0_0
/-- The whole of a buffer of this shape. -/
abbrev r_S512x512 : Rect S512x512 := Rect.unit (s := S512x512) ![0, 0] S512x512.size inb_S512x512_S512x512_0_0
/-- The whole of a buffer of this shape. -/
abbrev r_S512x6912 : Rect S512x6912 := Rect.unit (s := S512x6912) ![0, 0] S512x6912.size inb_S512x6912_S512x6912_0_0
/-- The whole of a buffer of this shape. -/
abbrev r_S6912x512 : Rect S6912x512 := Rect.unit (s := S6912x512) ![0, 0] S6912x512.size inb_S6912x512_S6912x512_0_0

/-- The codes of the quantised h. -/
def hc (x1 : Vec F S512x6912 .f32) : Vec F S512x6912 .fp8e4m3 :=
  k0_pay2 (k0_pay4 (View.ld x1 r_S512x6912)) (View.ld x1 r_S512x6912)

/-- Its scales. -/
def hsc (x1 : Vec F S512x6912 .f32) : Vec F S512x1 .f32 :=
  k0_pay1 (F := F) (k0_pay5 (View.ld x1 r_S512x6912))

/-- What is left in window 9's buffer. -/
def out0_9 (x1 : Vec F S512x6912 .f32) : Vec F S512x6912 .fp8e4m3 := View.canon [⟨r_S512x6912, hc x1⟩]

/-- What is left in window 10's buffer. -/
def out0_10 (x1 : Vec F S512x6912 .f32) : Vec F S512x1 .f32 := View.canon [⟨r_S512x1, hsc x1⟩]

/-- What is left in window 8's buffer. -/
def out0_8 (x0 : Vec F S512x512 .bf16) (x1 : Vec F S512x6912 .f32) (x2 : Vec F S512x2560 .fp8e4m3) (x3 : Vec F S512x1 .f32) (x4 : Vec F S2560x512 .fp8e4m3) (x5 : Vec F S1x512 .f32) (x6 : Vec F S6912x512 .fp8e4m3) (x7 : Vec F S1x512 .f32) : Vec F S512x512 .bf16 :=
  View.canon [⟨r_S512x512, k0_pay3 (View.ld x2 r_S512x2560) (View.ld x4 r_S2560x512) (View.ld x3 r_S512x1) (View.ld x5 r_S1x512) (hc x1) (View.ld x6 r_S6912x512) (hsc x1) (View.ld x7 r_S1x512) (View.ld x0 r_S512x512)⟩]

theorem cover_S512x512 (p0 : Vec F S512x512 .bf16) (y : S512x512.Idx) :
    ∃ pc ∈ ([⟨r_S512x512, p0⟩] : List (View.Piece (Elt F) S512x512 .bf16)), y ∈ pc.1.set :=
  View.cover_of_tiled [⟨r_S512x512, p0⟩] S512x512.size (by rfl) y
theorem ld_S512x512 (p0 : Vec F S512x512 .bf16) : View.ld (View.canon [⟨r_S512x512, p0⟩] : Vec F S512x512 .bf16) r_S512x512 = p0 :=
  funext fun j => View.canon_cons_emb r_S512x512 p0 [] j

theorem cover_S512x6912 (p0 : Vec F S512x6912 .fp8e4m3) (y : S512x6912.Idx) :
    ∃ pc ∈ ([⟨r_S512x6912, p0⟩] : List (View.Piece (Elt F) S512x6912 .fp8e4m3)), y ∈ pc.1.set :=
  View.cover_of_tiled [⟨r_S512x6912, p0⟩] S512x6912.size (by rfl) y
theorem ld_S512x6912 (p0 : Vec F S512x6912 .fp8e4m3) : View.ld (View.canon [⟨r_S512x6912, p0⟩] : Vec F S512x6912 .fp8e4m3) r_S512x6912 = p0 :=
  funext fun j => View.canon_cons_emb r_S512x6912 p0 [] j

theorem cover_S512x1 (p0 : Vec F S512x1 .f32) (y : S512x1.Idx) :
    ∃ pc ∈ ([⟨r_S512x1, p0⟩] : List (View.Piece (Elt F) S512x1 .f32)), y ∈ pc.1.set :=
  View.cover_of_tiled [⟨r_S512x1, p0⟩] S512x1.size (by rfl) y
theorem ld_S512x1 (p0 : Vec F S512x1 .f32) : View.ld (View.canon [⟨r_S512x1, p0⟩] : Vec F S512x1 .f32) r_S512x1 = p0 :=
  funext fun j => View.canon_cons_emb r_S512x1 p0 [] j

set_option maxHeartbeats 1000000 in
/-- The body's triple at the first point, which quantises h. -/
theorem kernelRun0_A (c : Dev nD) (i : grid0.Coords) (arg1 : Memref sig .tc .vmem S512x512 .bf16) (harg1 : arg1.IsWhole) (arg2 : Memref sig .tc .vmem S512x6912 .f32) (harg2 : arg2.IsWhole) (arg3 : Memref sig .tc .vmem S512x2560 .fp8e4m3) (harg3 : arg3.IsWhole) (arg4 : Memref sig .tc .vmem S512x1 .f32) (harg4 : arg4.IsWhole) (arg5 : Memref sig .tc .vmem S2560x512 .fp8e4m3) (harg5 : arg5.IsWhole) (arg6 : Memref sig .tc .vmem S1x512 .f32) (harg6 : arg6.IsWhole) (arg7 : Memref sig .tc .vmem S6912x512 .fp8e4m3) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x6912 .fp8e4m3) (harg10 : arg10.IsWhole) (arg11 : Memref sig .tc .vmem S512x1 .f32) (harg11 : arg11.IsWhole) (hc0 : cond0_0 i)
    (x0 : Vec F S512x512 .bf16) (x1 : Vec F S512x6912 .f32) (x2 : Vec F S512x2560 .fp8e4m3) (x3 : Vec F S512x1 .f32) (x4 : Vec F S2560x512 .fp8e4m3) (x5 : Vec F S1x512 .f32) (x6 : Vec F S6912x512 .fp8e4m3) (x7 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x1) ∗ owns (c : Thread nD τ) arg11 fullShare (out0_10 x1)) -∗ K ⟨⟩))
      ⊢ wp frame (wpE (defs₀ (F := F)) Variants.none c none) E (cc0__out_kernel i arg1 harg1 arg2 harg2 arg3 harg3 arg4 harg4 arg5 harg5 arg6 harg6 arg7 harg7 arg8 harg8 arg9 harg9 arg10 harg10 arg11 harg11) K := by
  simp only [cc0__out_kernel_eq_skeleton]; unfold cc0__out_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    refine (View.read_writes_eq_canon _ _ _ (cover_S512x512 _)).trans ?_
    have er : kernelRun0_A.sl.r c arg2 harg2 x1 = k0_pay4 (View.ld x1 r_S512x6912) := by
      unfold kernelRun0_A.sl.r; rw [View.readAt_eq_ld, hf1]
    have er1 : kernelRun0_A.sl.r_1 c arg2 harg2 x1 = k0_pay5 (View.ld x1 r_S512x6912) := by
      unfold kernelRun0_A.sl.r_1; rw [View.readAt_eq_ld, hf1]
    have e12 : kernelRun0_A.sl.v12 c arg2 harg2 arg10 x1 = hc x1 := by
      unfold kernelRun0_A.sl.v12
      refine (View.readCov_cons_toLoadRect _ _ _ _).trans ?_
      rw [er, View.readAt_eq_ld, hf1]; rfl
    have e16 : kernelRun0_A.sl.v16 c arg2 harg2 arg11 x1 = hsc x1 := by
      unfold kernelRun0_A.sl.v16
      refine (View.readCov_cons_toLoadRect _ _ _ _).trans ?_
      rw [er1]; rfl
    simp only [View.readAt_eq_ld, hf0, hf1, hf2, hf3, hf4, hf5, hf6, hf7]
    rw [e12, e16]; rfl
  isplitl [H9]
  · iexists _; isplitr; swap; · iexact H9
    ipureintro
    refine (View.read_writes_eq_canon _ _ _ (cover_S512x6912 _)).trans ?_
    have er : kernelRun0_A.sl.r c arg2 harg2 x1 = k0_pay4 (View.ld x1 r_S512x6912) := by
      unfold kernelRun0_A.sl.r; rw [View.readAt_eq_ld, hf1]
    rw [er, View.readAt_eq_ld, hf1]; rfl
  iexists _; isplitr; swap; · iexact H10
  ipureintro
  refine (View.read_writes_eq_canon _ _ _ (cover_S512x1 _)).trans ?_
  have er1 : kernelRun0_A.sl.r_1 c arg2 harg2 x1 = k0_pay5 (View.ld x1 r_S512x6912) := by
    unfold kernelRun0_A.sl.r_1; rw [View.readAt_eq_ld, hf1]
  rw [er1]; rfl

set_option maxHeartbeats 1000000 in
/-- The body's triple at a later point, which reads the quantised h back. -/
theorem kernelRun0_B (c : Dev nD) (i : grid0.Coords) (arg1 : Memref sig .tc .vmem S512x512 .bf16) (harg1 : arg1.IsWhole) (arg2 : Memref sig .tc .vmem S512x6912 .f32) (harg2 : arg2.IsWhole) (arg3 : Memref sig .tc .vmem S512x2560 .fp8e4m3) (harg3 : arg3.IsWhole) (arg4 : Memref sig .tc .vmem S512x1 .f32) (harg4 : arg4.IsWhole) (arg5 : Memref sig .tc .vmem S2560x512 .fp8e4m3) (harg5 : arg5.IsWhole) (arg6 : Memref sig .tc .vmem S1x512 .f32) (harg6 : arg6.IsWhole) (arg7 : Memref sig .tc .vmem S6912x512 .fp8e4m3) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x6912 .fp8e4m3) (harg10 : arg10.IsWhole) (arg11 : Memref sig .tc .vmem S512x1 .f32) (harg11 : arg11.IsWhole) (hc0 : ¬cond0_0 i)
    (x0 : Vec F S512x512 .bf16) (x1 : Vec F S512x6912 .f32) (x2 : Vec F S512x2560 .fp8e4m3) (x3 : Vec F S512x1 .f32) (x4 : Vec F S2560x512 .fp8e4m3) (x5 : Vec F S1x512 .f32) (x6 : Vec F S6912x512 .fp8e4m3) (x7 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare (out0_9 x1) ∗ owns (c : Thread nD τ) arg11 fullShare (out0_10 x1)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x1) ∗ owns (c : Thread nD τ) arg11 fullShare (out0_10 x1)) -∗ K ⟨⟩))
      ⊢ wp frame (wpE (defs₀ (F := F)) Variants.none c none) E (cc0__out_kernel i arg1 harg1 arg2 harg2 arg3 harg3 arg4 harg4 arg5 harg5 arg6 harg6 arg7 harg7 arg8 harg8 arg9 harg9 arg10 harg10 arg11 harg11) K := by
  simp only [cc0__out_kernel_eq_skeleton]; unfold cc0__out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    refine (View.read_writes_eq_canon _ _ _ (cover_S512x512 _)).trans ?_
    simp only [View.readAt_eq_ld, hf0, hf1, hf2, hf3, hf4, hf5, hf6, hf7, hf9, hf10]
    unfold out0_8 out0_9 out0_10
    rw [ld_S512x6912, ld_S512x1]
  isplitl [H9]
  · iexists _; isplitr; · ipureintro; exact harg10.read_unread _
    iexact H9
  iexists _; isplitr; · ipureintro; exact harg11.read_unread _
  iexact H10

/-- The proof data of the pipeline: every input's buffer at its block, the first output's at the block of the result,
    the other two at the quantised h from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 1 t)
    | ⟨10, _⟩ => out0_10 (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 1 t) := by dsimp only [dats]
theorem after0_10 (c : Dev nD) (t : Fin cfg0.N) : (dats m 0 c).after 10 t = out0_10 (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The block of h is the same at every point. -/
theorem iblk_h (c : Dev nD) (t t' : Fin cfg0.N) : (iblk m c 1 t : Vec F S512x6912 .f32) = iblk m c 1 t' := rfl

theorem before0_9 (c : Dev nD) (t : Fin cfg0.N) (h : t.val ≠ 0) (d) : (dats m 0 c).before 9 t d = out0_9 (iblk m c 1 t) := by
  rw [(dats m 0 c).before_out_traj 9 rfl (fun _ _ => rfl) (fun t _ _ _ => by rw [after0_9, after0_9]; rfl) t.val t rfl d,
    fresh0_9 t, decide_eq_false h, if_neg Bool.false_ne_true, after0_9]
  rfl

/-- The buffer handed back at a later point is what the obligation asks for. -/
theorem leave0_9 (c : Dev nD) (t : Fin cfg0.N) (h : t.val ≠ 0) :
    owns (c : Thread nD τ) (ms0_9 t) fullShare (out0_9 (iblk m c 1 t)) ⊢ (dats m 0 c).leavesExact 9 t := by
  unfold Dat.leavesExact
  rw [idle0_9 t (fun hc => h ((hcond0_0 t).mp hc))]
  cases hf : (cfg0.win 9).flush t
  · dsimp only
    iintro H
    iexists (out0_9 (iblk m c 1 t))
    rw [before0_9 m c t h]
    iexact H
  · dsimp only
    rw [after0_9]

theorem before0_10 (c : Dev nD) (t : Fin cfg0.N) (h : t.val ≠ 0) (d) : (dats m 0 c).before 10 t d = out0_10 (iblk m c 1 t) := by
  rw [(dats m 0 c).before_out_traj 10 rfl (fun _ _ => rfl) (fun t _ _ _ => by rw [after0_10, after0_10]; rfl) t.val t rfl d,
    fresh0_10 t, decide_eq_false h, if_neg Bool.false_ne_true, after0_10]
  rfl

/-- The buffer handed back at a later point is what the obligation asks for. -/
theorem leave0_10 (c : Dev nD) (t : Fin cfg0.N) (h : t.val ≠ 0) :
    owns (c : Thread nD τ) (ms0_10 t) fullShare (out0_10 (iblk m c 1 t)) ⊢ (dats m 0 c).leavesExact 10 t := by
  unfold Dat.leavesExact
  rw [idle0_10 t (fun hc => h ((hcond0_0 t).mp hc))]
  cases hf : (cfg0.win 10).flush t
  · dsimp only
    iintro H
    iexists (out0_10 (iblk m c 1 t))
    rw [before0_10 m c t h]
    iexact H
  · dsimp only
    rw [after0_10]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem lv0_0 (c : Dev nD) (t : Fin cfg0.N) : (dats m 0 c).leavesExact 0 t = owns (c : Thread nD τ) (ms0_0 t) fullShare ((dats m 0 c).after 0 t) := by
  unfold Dat.leavesExact; rw [live0_0 t]
theorem lv0_1 (c : Dev nD) (t : Fin cfg0.N) : (dats m 0 c).leavesExact 1 t = owns (c : Thread nD τ) (ms0_1 t) fullShare ((dats m 0 c).after 1 t) := by
  unfold Dat.leavesExact; rw [live0_1 t]
theorem lv0_2 (c : Dev nD) (t : Fin cfg0.N) : (dats m 0 c).leavesExact 2 t = owns (c : Thread nD τ) (ms0_2 t) fullShare ((dats m 0 c).after 2 t) := by
  unfold Dat.leavesExact; rw [live0_2 t]
theorem lv0_3 (c : Dev nD) (t : Fin cfg0.N) : (dats m 0 c).leavesExact 3 t = owns (c : Thread nD τ) (ms0_3 t) fullShare ((dats m 0 c).after 3 t) := by
  unfold Dat.leavesExact; rw [live0_3 t]
theorem lv0_4 (c : Dev nD) (t : Fin cfg0.N) : (dats m 0 c).leavesExact 4 t = owns (c : Thread nD τ) (ms0_4 t) fullShare ((dats m 0 c).after 4 t) := by
  unfold Dat.leavesExact; rw [live0_4 t]
theorem lv0_5 (c : Dev nD) (t : Fin cfg0.N) : (dats m 0 c).leavesExact 5 t = owns (c : Thread nD τ) (ms0_5 t) fullShare ((dats m 0 c).after 5 t) := by
  unfold Dat.leavesExact; rw [live0_5 t]
theorem lv0_6 (c : Dev nD) (t : Fin cfg0.N) : (dats m 0 c).leavesExact 6 t = owns (c : Thread nD τ) (ms0_6 t) fullShare ((dats m 0 c).after 6 t) := by
  unfold Dat.leavesExact; rw [live0_6 t]
theorem lv0_7 (c : Dev nD) (t : Fin cfg0.N) : (dats m 0 c).leavesExact 7 t = owns (c : Thread nD τ) (ms0_7 t) fullShare ((dats m 0 c).after 7 t) := by
  unfold Dat.leavesExact; rw [live0_7 t]
theorem lv0_8 (c : Dev nD) (t : Fin cfg0.N) : (dats m 0 c).leavesExact 8 t = owns (c : Thread nD τ) (ms0_8 t) fullShare ((dats m 0 c).after 8 t) := by
  unfold Dat.leavesExact; rw [live0_8 t]
theorem lv0_9 (c : Dev nD) (t : Fin cfg0.N) (h : t.val = 0) : (dats m 0 c).leavesExact 9 t = owns (c : Thread nD τ) (ms0_9 t) fullShare ((dats m 0 c).after 9 t) := by
  unfold Dat.leavesExact; rw [live0_9 t ((hcond0_0 t).mpr h)]
theorem lv0_10 (c : Dev nD) (t : Fin cfg0.N) (h : t.val = 0) : (dats m 0 c).leavesExact 10 t = owns (c : Thread nD τ) (ms0_10 t) fullShare ((dats m 0 c).after 10 t) := by
  unfold Dat.leavesExact; rw [live0_10 t ((hcond0_0 t).mpr h)]

set_option maxHeartbeats 1600000 in
/-- The body at any point, by whether it is the first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    lv0_0, lv0_1, lv0_2, lv0_3, lv0_4, lv0_5, lv0_6, lv0_7, lv0_8,
    after0_0, after0_1, after0_2, after0_3, after0_4, after0_5, after0_6, after0_7, after0_8]
  by_cases h0 : t.val = 0
  · rw [lv0_9 m c t h0, lv0_10 m c t h0, after0_9, after0_10]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before0_9 m c t h0, before0_10 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leave0_9 m c t h0); iexact H9
    iapply (leave0_10 m c t h0); iexact H10

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends with the arrays at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.OutIdeal.Hand

end
-- ==== Proof.Out.lean ====
/-
  The output call: ten blocks of 512 columns, h quantised at the first and read back at the others. At the ideal instance its
  three results are the reference's functions of the arguments.
-/
module

public import proofs.«01_k».proof.Defs
public import proofs.«01_k».proof.Proof.OutIdealFrame
public import proofs.«01_k».proof.Proof.Gen.OutRefIdeal.Frame
public import proofs.«01_k».proof.Proof.Scale
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Hand

open Cert.OutIdeal Cert.OutIdeal.Gen

/-! ## The quantiser -/

/-- The rows' maxima of absolute values. -/
def amax (v : FVec Ideal S512x6912 .f32) : FVec Ideal S512x1 .f32 :=
  shapeCast S512x1 (multiReduction (F := Ideal) .maximumf [1] S512 (absf v) 0xFF800000#32 reduces_S512x6912_S512 (.inl rfl) rfl) shapeCasts_S512_S512x1

/-- The kernel's exponents from the maxima. -/
def kE (v33 : FVec Ideal S512x1 .f32) : IVec S512x1 32 :=
  have cst_24 : Ideal .f32 := Scalar.ofBits .f32 0x3B124925#32
  have v34 : FVec Ideal S512x1 .f32 := broadcast S512x1 cst_24
  have v35 : FVec Ideal S512x1 .f32 := mulf v33 v34
  have v36 : IVec S512x256 32 := iota .tc S512x256 32 [1] iota_S512x256_d1_w32
  have v37 : IVec S512x256 32 := broadcast S512x256 0#32
  have v38 : IVec S512x256 1 := cmpi .sgt v36 v37
  have v39 : IVec S512x256 32 := broadcast S512x256 23#32
  have v40 : IVec S512x256 32 := shli v36 v39
  have v41 : FVec Ideal S512x256 .f32 := bitcastToFloat .f32 v40
  have v42 : FVec Ideal S512x256 .f32 := broadcastTo S512x256 v35 broadcasts_S512x1_S512x256
  have v43 : IVec S512x256 1 := cmpf .oge v42 v41
  have v44 : IVec S512x256 1 := andi v38 v43
  have v45 : IVec S512x256 32 := extui 32 v44 natLt_1_32
  have v46 : IVec S512 32 := multiReductionI .add [1] S512 v45 0#32 reduces_S512x256_S512 rfl
  have v47 : IVec S512x1 32 := shapeCast S512x1 v46 shapeCasts_S512_S512x1
  have v48 : IVec S512x1 32 := broadcast S512x1 0#32
  have v49 : IVec S512x1 1 := cmpi .eq v47 v48
  have v50 : IVec S512x1 32 := broadcast S512x1 255#32
  have v51 : IVec S512x1 1 := cmpi .eq v47 v50
  have v52 : IVec S512x1 1 := ori v49 v51
  have cst_28 : Ideal .f32 := Scalar.ofBits .f32 0x00000000#32
  have v53 : FVec Ideal S512x1 .f32 := broadcast S512x1 cst_28
  have v54 : IVec S512x1 1 := cmpf .oeq v33 v53
  have v55 : IVec S512x1 1 := ori v52 v54
  have v56 : IVec S512x1 32 := broadcast S512x1 126#32
  have v57 : IVec S512x1 32 := subi v47 v56
  have v58 : IVec S512x1 32 := broadcast S512x1 0#32
  have v59 : IVec S512x1 32 := select v55 v58 v57
  v59

/-- The reference's exponents from the maxima. -/
def rE (v3 : FVec Ideal S512x1 .f32) : FVec Ideal S512x1 .f32 :=
  have cst_1 : Ideal .f32 := Scalar.ofBits .f32 0x3B124925#32
  have v4 : FVec Ideal S512x1 .f32 := broadcast S512x1 cst_1
  have v5 : FVec Ideal S512x1 .f32 := mulf v3 v4
  have cst_2 : Ideal .f32 := Scalar.ofBits .f32 0x00800000#32
  have v6 : FVec Ideal S512x1 .f32 := broadcast S512x1 cst_2
  have v7 : IVec S512x1 1 := cmpf .oge v5 v6
  have cst_3 : Ideal .f32 := Scalar.ofBits .f32 0x7F800000#32
  have v8 : FVec Ideal S512x1 .f32 := broadcast S512x1 cst_3
  have v9 : IVec S512x1 1 := cmpf .olt v5 v8
  have v10 : IVec S512x1 1 := andi v7 v9
  have v11 : FVec Ideal S512x1 .f32 := log v5
  have cst_4 : Ideal .f32 := Scalar.ofBits .f32 0x40000000#32
  have v12 : FVec Ideal S512x1 .f32 := broadcast S512x1 cst_4
  have v13 : FVec Ideal S512x1 .f32 := log v12
  have v14 : FVec Ideal S512x1 .f32 := divf v11 v13
  have v15 : FVec Ideal S512x1 .f32 := floor v14
  have cst_5 : Ideal .f32 := Scalar.ofBits .f32 0x3F800000#32
  have v16 : FVec Ideal S512x1 .f32 := broadcast S512x1 cst_5
  have v17 : FVec Ideal S512x1 .f32 := addf v15 v16
  have cst_6 : Ideal .f32 := Scalar.ofBits .f32 0x00000000#32
  have v18 : FVec Ideal S512x1 .f32 := broadcast S512x1 cst_6
  have v19 : FVec Ideal S512x1 .f32 := select v10 v17 v18
  have cst_7 : Ideal .f32 := Scalar.ofBits .f32 0x00000000#32
  have v20 : FVec Ideal S512x1 .f32 := broadcast S512x1 cst_7
  have v21 : IVec S512x1 1 := cmpf .oeq v3 v20
  have cst_8 : Ideal .f32 := Scalar.ofBits .f32 0x00000000#32
  have v22 : FVec Ideal S512x1 .f32 := broadcast S512x1 cst_8
  have v23 : FVec Ideal S512x1 .f32 := select v21 v22 v19
  v23

/-- The reference's codes from the exponents. -/
def rC (E : FVec Ideal S512x1 .f32) (v0 : FVec Ideal S512x6912 .f32) : FVec Ideal S512x6912 .fp8e4m3 :=
  have cst_9 : Ideal .f32 := Scalar.ofBits .f32 0x00000000#32
  have v24 : FVec Ideal S512x1 .f32 := broadcast S512x1 cst_9
  have v25 : FVec Ideal S512x1 .f32 := subf v24 E
  have cst_10 : Ideal .f32 := Scalar.ofBits .f32 0xC2FC0000#32
  have v26 : FVec Ideal S512x1 .f32 := broadcast S512x1 cst_10
  have v27 : IVec S512x1 1 := cmpf .olt v25 v26
  have cst_11 : Ideal .f32 := Scalar.ofBits .f32 0x42FE0000#32
  have v28 : FVec Ideal S512x1 .f32 := broadcast S512x1 cst_11
  have v29 : IVec S512x1 1 := cmpf .ogt v25 v28
  have v30 : FVec Ideal S512x1 .f32 := exp2 v25
  have cst_12 : Ideal .f32 := Scalar.ofBits .f32 0x7F800000#32
  have v31 : FVec Ideal S512x1 .f32 := broadcast S512x1 cst_12
  have v32 : FVec Ideal S512x1 .f32 := select v29 v31 v30
  have cst_13 : Ideal .f32 := Scalar.ofBits .f32 0x00000000#32
  have v33 : FVec Ideal S512x1 .f32 := broadcast S512x1 cst_13
  have v34 : FVec Ideal S512x1 .f32 := select v27 v33 v32
  have v35 : FVec Ideal S512x6912 .f32 := broadcastTo S512x6912 v34 broadcasts_S512x1_S512x6912
  have v36 : FVec Ideal S512x6912 .f32 := mulf v0 v35
  have cst_14 : Ideal .f32 := Scalar.ofBits .f32 0xC3E00000#32
  have cst_15 : Ideal .f32 := Scalar.ofBits .f32 0x43E00000#32
  have v37 : FVec Ideal S512x6912 .f32 := broadcast S512x6912 cst_14
  have v38 : FVec Ideal S512x6912 .f32 := maximumf v37 v36
  have v39 : FVec Ideal S512x6912 .f32 := broadcast S512x6912 cst_15
  have v40 : FVec Ideal S512x6912 .f32 := minimumf v39 v38
  have v41 : FVec Ideal S512x6912 .fp8e4m3 := truncf .fp8e4m3 v40 bitsLt_fp8e4m3_f32
  v41

/-- The kernel's scales from the exponents. -/
def kS (e : IVec S512x1 32) : IVec S512x1 32 :=
  have v60 : IVec S512x1 32 := broadcast S512x1 127#32
  have v61 : IVec S512x1 32 := addi e v60
  have v62 : IVec S512x1 32 := broadcast S512x1 0#32
  have v63 : IVec S512x1 1 := cmpi .sle v61 v62
  have v64 : IVec S512x1 32 := broadcast S512x1 255#32
  have v65 : IVec S512x1 1 := cmpi .sge v61 v64
  have v66 : IVec S512x1 32 := broadcast S512x1 23#32
  have v67 : IVec S512x1 32 := shli v61 v66
  have v68 : IVec S512x1 32 := broadcast S512x1 2139095040#32
  have v69 : IVec S512x1 32 := select v65 v68 v67
  have v70 : IVec S512x1 32 := broadcast S512x1 0#32
  have v71 : IVec S512x1 32 := select v63 v70 v69
  v71

theorem kE_eq (v : FVec Ideal S512x6912 .f32) : k0_pay4 (F := Ideal) v = kE (amax v) := rfl
theorem kS_eq (v : FVec Ideal S512x6912 .f32) : k0_pay5 (F := Ideal) v = kS (k0_pay4 (F := Ideal) v) := rfl
theorem rE_eq (v : FVec Ideal S512x6912 .f32) : Cert.OutRefIdeal.Gen.k0_pay1 (F := Ideal) v = rE (amax v) := rfl
theorem rC_eq (v : FVec Ideal S512x6912 .f32) : Cert.OutRefIdeal.Gen.k0_pay2 (F := Ideal) v = rC (Cert.OutRefIdeal.Gen.k0_pay1 (F := Ideal) v) v := rfl

/-- The kernel's exponent of a row. -/
theorem kE_at (A : FVec Ideal S512x1 .f32) (r : Fin 512) : kE A (ix2 r 0) = Cert.Quant.kexp (A (ix2 r 0)) := by
  pointwise [kE]
  rfl

/-- The reference's exponent of a row. -/
theorem rE_at (A : FVec Ideal S512x1 .f32) (r : Fin 512) : rE A (ix2 r 0) = Cert.Quant.rexp (A (ix2 r 0)) := by
  pointwise [rE]
  rfl

/-- The kernel's scale of a row. -/
theorem kS_at (e : IVec S512x1 32) (r : Fin 512) : k0_pay1 (F := Ideal) (kS e) (ix2 r 0) = Cert.Quant.kscale (e (ix2 r 0)) := by
  pointwise [k0_pay1, kS]
  rfl

/-- The reference's scale of a row. -/
theorem rS_at (E : FVec Ideal S512x1 .f32) (r : Fin 512) : Cert.OutRefIdeal.Gen.k0_pay3 (F := Ideal) E (ix2 r 0) = Cert.Quant.rscale (E (ix2 r 0)) := by
  pointwise [Cert.OutRefIdeal.Gen.k0_pay3]
  rfl

/-- A code, clipped, from a value and a factor. -/
def code (x s : EReal) : EReal := min (Ideal.ofBits .f32 0x43E00000#32) (max (Ideal.ofBits .f32 0xC3E00000#32) (x * s))

/-- The kernel's code. -/
theorem kC_at (e : IVec S512x1 32) (v : FVec Ideal S512x6912 .f32) (r : Fin 512) (j : Fin 6912) :
    k0_pay2 (F := Ideal) e v (ix2 r j) = code (v (ix2 r j)) (Cert.Quant.kscale (IntOp.subi 0#32 (e (ix2 r 0)))) := by
  pointwise [k0_pay2]
  rfl

/-- The reference's code. -/
theorem rC_at (E : FVec Ideal S512x1 .f32) (v : FVec Ideal S512x6912 .f32) (r : Fin 512) (j : Fin 6912) :
    rC E v (ix2 r j) = code (v (ix2 r j)) (Cert.Quant.rscale (0 - E (ix2 r 0))) := by
  pointwise [rC]
  rfl

/-- The codes agree. -/
theorem codes (v : FVec Ideal S512x6912 .f32) : k0_pay2 (F := Ideal) (k0_pay4 (F := Ideal) v) v = Cert.OutRefIdeal.Gen.k0_pay2 (F := Ideal) v := by
  funext y
  idx_vars y
  rw [rC_eq, kE_eq, rE_eq]
  exact (kC_at _ _ _ _).trans ((congrArg _ ((congrArg _ (congrArg _ (kE_at _ _))).trans ((Cert.Quant.quant _).2.trans (congrArg _ (congrArg _ (rE_at _ _).symm))))).trans (rC_at _ _ _ _).symm)

/-- The scales agree. -/
theorem scales (v : FVec Ideal S512x6912 .f32) : k0_pay1 (F := Ideal) (k0_pay5 (F := Ideal) v) = Cert.OutRefIdeal.Gen.k0_pay3 (F := Ideal) (Cert.OutRefIdeal.Gen.k0_pay1 (F := Ideal) v) := by
  funext y
  idx_vars y
  obtain rfl : y1 = 0 := Subsingleton.elim _ _
  rw [kS_eq, kE_eq, rE_eq]
  exact (kS_at _ _).trans ((congrArg _ (kE_at _ _)).trans ((Cert.Quant.quant _).1.trans ((congrArg _ (rE_at _ _).symm).trans (rS_at _ _).symm)))

/-- A block read whole. -/
theorem ld_whole (v : Vec Ideal S512x6912 .f32) : View.ld v r_S512x6912 = v := by
  frame_out

theorem hc_of (v : Vec Ideal S512x6912 .f32) : hc (F := Ideal) v = Cert.OutRefIdeal.Gen.k0_pay2 (F := Ideal) v := by
  unfold hc
  rw [ld_whole]
  exact codes v

theorem hsc_of (v : Vec Ideal S512x6912 .f32) : hsc (F := Ideal) v = Cert.OutRefIdeal.Gen.k0_pay3 (F := Ideal) (Cert.OutRefIdeal.Gen.k0_pay1 (F := Ideal) v) := by
  unfold hsc
  rw [ld_whole]
  exact scales v

/-! ## The two products -/

/-- The reference's first result from any codes and scales of h. -/
def rO (S : FVec Ideal S512x1 .f32) (v41 : FVec Ideal S512x6912 .fp8e4m3) (v51 : FVec Ideal S512x2560 .fp8e4m3) (v52 : FVec Ideal S512x1 .f32) (v53 : FVec Ideal S2560x5120 .fp8e4m3) (v54 : FVec Ideal S1x5120 .f32) (v60 : FVec Ideal S6912x5120 .fp8e4m3) (v61 : FVec Ideal S1x5120 .f32) (v67 : FVec Ideal S512x5120 .bf16) : FVec Ideal S512x5120 .bf16 :=
  have cst_28 : FVec Ideal S512x5120 .f32 := constant S512x5120 .f32 0x00000000#32
  have v55 : FVec Ideal S512x5120 .f32 := matmul Cert.OutRefIdeal.dot_S512x2560_S2560x5120_S512x5120_1_0_0_1_n_n none v51 v53 cst_28
  have v56 : FVec Ideal S512x5120 .f32 := broadcastTo S512x5120 v52 Cert.OutRefIdeal.Gen.broadcasts_S512x1_S512x5120
  have v57 : FVec Ideal S512x5120 .f32 := mulf v55 v56
  have v58 : FVec Ideal S512x5120 .f32 := broadcastTo S512x5120 v54 Cert.OutRefIdeal.Gen.broadcasts_S1x5120_S512x5120
  have v59 : FVec Ideal S512x5120 .f32 := mulf v57 v58
  have cst_33 : FVec Ideal S512x5120 .f32 := constant S512x5120 .f32 0x00000000#32
  have v62 : FVec Ideal S512x5120 .f32 := matmul Cert.OutRefIdeal.dot_S512x6912_S6912x5120_S512x5120_1_0_0_1_n_n none v41 v60 cst_33
  have v63 : FVec Ideal S512x5120 .f32 := broadcastTo S512x5120 S Cert.OutRefIdeal.Gen.broadcasts_S512x1_S512x5120
  have v64 : FVec Ideal S512x5120 .f32 := mulf v62 v63
  have v65 : FVec Ideal S512x5120 .f32 := broadcastTo S512x5120 v61 Cert.OutRefIdeal.Gen.broadcasts_S1x5120_S512x5120
  have v66 : FVec Ideal S512x5120 .f32 := mulf v64 v65
  have v68 : FVec Ideal S512x5120 .bf16 := shapeCast S512x5120 v67 Cert.OutRefIdeal.Gen.shapeCasts_S512x5120_S512x5120
  have v69 : FVec Ideal S512x5120 .f32 := extf .f32 v68 bitsLt_bf16_f32
  have v70 : FVec Ideal S512x5120 .f32 := addf v69 v59
  have v71 : FVec Ideal S512x5120 .f32 := addf v70 v66
  have v72 : FVec Ideal S512x5120 .bf16 := truncf .bf16 v71 bitsLt_bf16_f32
  v72

theorem rO_eq (E : FVec Ideal S512x1 .f32) (C : FVec Ideal S512x6912 .fp8e4m3) (v51 : FVec Ideal S512x2560 .fp8e4m3) (v52 : FVec Ideal S512x1 .f32)
    (v53 : FVec Ideal S2560x5120 .fp8e4m3) (v54 : FVec Ideal S1x5120 .f32) (v60 : FVec Ideal S6912x5120 .fp8e4m3) (v61 : FVec Ideal S1x5120 .f32)
    (v67 : FVec Ideal S512x5120 .bf16) : Cert.OutRefIdeal.Gen.k0_pay4 (F := Ideal) E C v51 v52 v53 v54 v60 v61 v67
    = rO (Cert.OutRefIdeal.Gen.k0_pay3 (F := Ideal) E) C v51 v52 v53 v54 v60 v61 v67 := rfl

variable (m : (ℓ : Loc nD τ sig) → Buf (Elt Ideal) ℓ)

/-- The reference's first result: the residual row plus the two scaled products. -/
def REF8 (X : FVec Ideal S1x512x5120 .bf16) (H : FVec Ideal S512x6912 .f32) (v51 : FVec Ideal S512x2560 .fp8e4m3) (v52 : FVec Ideal S512x1 .f32)
    (v53 : FVec Ideal S2560x5120 .fp8e4m3) (v54 : FVec Ideal S1x5120 .f32) (v60 : FVec Ideal S6912x5120 .fp8e4m3) (v61 : FVec Ideal S1x5120 .f32) :
    FVec Ideal S512x5120 .bf16 :=
  rO (Cert.OutRefIdeal.Gen.k0_pay3 (F := Ideal) (Cert.OutRefIdeal.Gen.k0_pay1 (F := Ideal) H)) (Cert.OutRefIdeal.Gen.k0_pay2 (F := Ideal) H)
    v51 v52 v53 v54 v60 v61 (shapeCast S512x5120 X Cert.OutRefIdeal.Gen.shapeCasts_S1x512x5120_S512x5120)

/-- The blocks' places: column block `t` of x, of the weights and of the result, the whole array of the others. -/
theorem idx : ∀ t : Fin cfg0.N, win0_0.index t = ![0, t.val] ∧ win0_1.index t = ![0, 0] ∧ win0_2.index t = ![0, 0]
    ∧ win0_3.index t = ![0, 0] ∧ win0_4.index t = ![0, t.val] ∧ win0_5.index t = ![0, t.val] ∧ win0_6.index t = ![0, t.val]
    ∧ win0_7.index t = ![0, t.val] ∧ win0_8.index t = ![0, t.val] ∧ win0_9.index t = ![0, 0] ∧ win0_10.index t = ![0, 0] :=
  (by decide +kernel : ∀ t : Fin grid0.N, _)

/-- The second window's block is the array of h. -/
theorem iblk1 (c : Dev nD) (t : Fin cfg0.N) : (show FVec Ideal S512x6912 .f32 from iblk m c 1 t) = m ((c : Thread nD τ).loc main_arg1) := by
  blk_ext! [iblk, V, idx t]

/-- The codes the body works on are the reference's codes of h. -/
theorem hc_eq (c : Dev nD) (t : Fin cfg0.N) : hc (F := Ideal) (iblk m c 1 t) = Cert.OutRefIdeal.Gen.k0_pay2 (F := Ideal) (m ((c : Thread nD τ).loc main_arg1)) :=
  (hc_of _).trans (congrArg _ (iblk1 m c t))

/-- The scales the body works on are the reference's scales of h. -/
theorem hsc_eq (c : Dev nD) (t : Fin cfg0.N) : hsc (F := Ideal) (iblk m c 1 t)
    = Cert.OutRefIdeal.Gen.k0_pay3 (F := Ideal) (Cert.OutRefIdeal.Gen.k0_pay1 (F := Ideal) (m ((c : Thread nD τ).loc main_arg1))) :=
  (hsc_of _).trans (congrArg (fun v => Cert.OutRefIdeal.Gen.k0_pay3 (F := Ideal) (Cert.OutRefIdeal.Gen.k0_pay1 (F := Ideal) v)) (iblk1 m c t))

/-- The body's result at an index of its block. -/
theorem pay3_at (AC : FVec Ideal S512x2560 .fp8e4m3) (WO : FVec Ideal S2560x512 .fp8e4m3) (AS : FVec Ideal S512x1 .f32) (SO : FVec Ideal S1x512 .f32)
    (C : FVec Ideal S512x6912 .fp8e4m3) (WD : FVec Ideal S6912x512 .fp8e4m3) (S : FVec Ideal S512x1 .f32) (SD : FVec Ideal S1x512 .f32)
    (X : FVec Ideal S512x512 .bf16) (r : Fin 512) (q : Fin 512) :
    k0_pay3 (F := Ideal) AC WO AS SO C WD S SD X (ix2 r q)
    = X (ix2 r q) + (∑ k : Fin 2560, AC (ix2 r k) * WO (ix2 k q)) * AS (ix2 r 0) * SO (ix2 0 q)
      + (∑ k : Fin 6912, C (ix2 r k) * WD (ix2 k q)) * S (ix2 r 0) * SD (ix2 0 q) := by
  pointwise [k0_pay3]

/-- The reference's result at an index. -/
theorem rO_at (AC : FVec Ideal S512x2560 .fp8e4m3) (WO : FVec Ideal S2560x5120 .fp8e4m3) (AS : FVec Ideal S512x1 .f32) (SO : FVec Ideal S1x5120 .f32)
    (C : FVec Ideal S512x6912 .fp8e4m3) (WD : FVec Ideal S6912x5120 .fp8e4m3) (S : FVec Ideal S512x1 .f32) (SD : FVec Ideal S1x5120 .f32)
    (X : FVec Ideal S512x5120 .bf16) (r : Fin 512) (q : Fin 5120) :
    rO S C AC AS WO SO WD SD X (ix2 r q)
    = X (ix2 r q) + (∑ k : Fin 2560, AC (ix2 r k) * WO (ix2 k q)) * AS (ix2 r 0) * SO (ix2 0 q)
      + (∑ k : Fin 6912, C (ix2 r k) * WD (ix2 k q)) * S (ix2 r 0) * SD (ix2 0 q) := by
  pointwise [rO]

/-- What the body stores at an index of point `t`'s block, from any codes and scales of h, is the reference's result from the
    same codes and scales where that index lies in the array. -/
theorem point (c : Dev nD) (t : Fin cfg0.N) (C : FVec Ideal S512x6912 .fp8e4m3) (S : FVec Ideal S512x1 .f32) (y : S512x512.Idx) :
    k0_pay3 (iblk m c 2 t) (iblk m c 4 t) (iblk m c 3 t) (iblk m c 5 t) C (iblk m c 6 t) S (iblk m c 7 t) (iblk m c 0 t) y
    = rO S C (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (shapeCast S512x5120 (m ((c : Thread nD τ).loc main_arg0)) Cert.OutRefIdeal.Gen.shapeCasts_S1x512x5120_S512x5120) (((cfg0.win 8).blk t).view.emb y) := by
  idx_vars y
  have ht : t.val * 512 + y1.val < 5120 := by
    have h : t.val < 10 := t.isLt
    omega
  have e : (((cfg0.win 8).blk t).view.emb (ix2 y0 y1)) = ix2 y0 (⟨t.val * 512 + y1.val, ht⟩ : Fin 5120) := by
    blk_ext [idx t]
  rw [e]
  refine (pay3_at _ _ _ _ _ _ _ _ _ _ _).trans (Eq.trans ?_ (rO_at _ _ _ _ _ _ _ _ _ _ _).symm)
  blk_point [iblk, V, idx t]

/-- The first result array after the run. -/
theorem final8 (c : Dev nD) : (dats m 0 c).arrAt 8 (cfgs 0).N
    = REF8 (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]; frame_out
  refine (congrArg₂ (fun C S => k0_pay3 (iblk m c 2 t) (iblk m c 4 t) (iblk m c 3 t) (iblk m c 5 t) C (iblk m c 6 t) S (iblk m c 7 t) (iblk m c 0 t) y)
    (hc_eq m c t) (hsc_eq m c t)).trans ?_
  exact point m c t _ _ y

/-- The array of h's codes after the run. -/
theorem final9 (c : Dev nD) : (dats m 0 c).arrAt 9 (cfgs 0).N = Cert.OutRefIdeal.Gen.k0_pay2 (F := Ideal) (m ((c : Thread nD τ).loc main_arg1)) := by
  refine (dats m 0 c).arrAt_eq_of_covers 9 _ (by decide +kernel) fun t _ y => ?_
  blk_simp
  rw [after0_9]; frame_out
  refine (congrFun (hc_eq m c t) y).trans (congrArg _ ?_)
  blk_ext [idx t]

/-- The array of h's scales after the run. -/
theorem final10 (c : Dev nD) : (dats m 0 c).arrAt 10 (cfgs 0).N
    = Cert.OutRefIdeal.Gen.k0_pay3 (F := Ideal) (Cert.OutRefIdeal.Gen.k0_pay1 (F := Ideal) (m ((c : Thread nD τ).loc main_arg1))) := by
  refine (dats m 0 c).arrAt_eq_of_covers 10 _ (by decide +kernel) fun t _ y => ?_
  blk_simp
  rw [after0_10]; frame_out
  refine (congrFun (hsc_eq m c t) y).trans (congrArg _ ?_)
  blk_ext [idx t]

end Cert.OutIdeal.Hand

namespace Cert.OutRefIdeal.Hand

open Cert.OutRefIdeal Cert.OutRefIdeal.Gen

variable (m : (ℓ : Loc nD τ sig) → Buf (Elt Ideal) ℓ)

/-! Each block is its whole array. -/

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] := (by decide +kernel : ∀ t : Fin grid0.N, _)

theorem iblk0 (c : Dev nD) : (show FVec Ideal S512x5120 .bf16 from iblk m c 0 t0_0)
    = shapeCast S512x5120 (m ((c : Thread nD τ).loc main_arg0) : FVec Ideal S1x512x5120 .bf16) Cert.OutRefIdeal.Gen.shapeCasts_S1x512x5120_S512x5120 := by
  funext y
  blk_simp [iblk]
  entry_read
  refine congrArg (shapeCast S512x5120 (m ((c : Thread nD τ).loc main_arg0) : FVec Ideal S1x512x5120 .bf16) Cert.OutRefIdeal.Gen.shapeCasts_S1x512x5120_S512x5120) ?_
  blk_ext [idx t0_0]

theorem iblk1 (c : Dev nD) : (show FVec Ideal S512x6912 .f32 from iblk m c 1 t0_0) = m ((c : Thread nD τ).loc main_arg1) := by
  blk_ext! [iblk, V, idx t0_0]

theorem iblk2 (c : Dev nD) : (show FVec Ideal S512x2560 .fp8e4m3 from iblk m c 2 t0_0) = m ((c : Thread nD τ).loc main_arg2) := by
  blk_ext! [iblk, V, idx t0_0]

theorem iblk3 (c : Dev nD) : (show FVec Ideal S512x1 .f32 from iblk m c 3 t0_0) = m ((c : Thread nD τ).loc main_arg3) := by
  blk_ext! [iblk, V, idx t0_0]

theorem iblk4 (c : Dev nD) : (show FVec Ideal S2560x5120 .fp8e4m3 from iblk m c 4 t0_0) = m ((c : Thread nD τ).loc main_arg4) := by
  blk_ext! [iblk, V, idx t0_0]

theorem iblk5 (c : Dev nD) : (show FVec Ideal S1x5120 .f32 from iblk m c 5 t0_0) = m ((c : Thread nD τ).loc main_arg5) := by
  blk_ext! [iblk, V, idx t0_0]

theorem iblk6 (c : Dev nD) : (show FVec Ideal S6912x5120 .fp8e4m3 from iblk m c 6 t0_0) = m ((c : Thread nD τ).loc main_arg6) := by
  blk_ext! [iblk, V, idx t0_0]

theorem iblk7 (c : Dev nD) : (show FVec Ideal S1x5120 .f32 from iblk m c 7 t0_0) = m ((c : Thread nD τ).loc main_arg7) := by
  blk_ext! [iblk, V, idx t0_0]

theorem body_eq {X X' : FVec Ideal S512x5120 .bf16} {H H' : FVec Ideal S512x6912 .f32} {v51 w51 : FVec Ideal S512x2560 .fp8e4m3} {v52 w52 : FVec Ideal S512x1 .f32}
    {v53 w53 : FVec Ideal S2560x5120 .fp8e4m3} {v54 w54 : FVec Ideal S1x5120 .f32} {v60 w60 : FVec Ideal S6912x5120 .fp8e4m3} {v61 w61 : FVec Ideal S1x5120 .f32}
    (h0 : X = X') (h1 : H = H') (h2 : v51 = w51) (h3 : v52 = w52) (h4 : v53 = w53) (h5 : v54 = w54) (h6 : v60 = w60) (h7 : v61 = w61) :
    k0_pay4 (F := Ideal) (k0_pay1 (F := Ideal) H) (k0_pay2 (F := Ideal) H) v51 v52 v53 v54 v60 v61 X
    = Cert.OutIdeal.Hand.rO (k0_pay3 (F := Ideal) (k0_pay1 (F := Ideal) H')) (k0_pay2 (F := Ideal) H') w51 w52 w53 w54 w60 w61 X' := by
  subst h0 h1 h2 h3 h4 h5 h6 h7
  exact Cert.OutIdeal.Hand.rO_eq _ _ _ _ _ _ _ _ _

/-- The reference's array of codes after its run. -/
theorem final9 (c : Dev nD) : (dats m 0 c).arrAt 9 (cfgs 0).N = k0_pay2 (F := Ideal) (m ((c : Thread nD τ).loc main_arg1)) := by
  refine (dats m 0 c).arrAt_eq_of_after_last 9 t0_0 (by decide +kernel) _ fun j => ?_
  blk_simp
  rw [after0_9]; unfold out0_9 k0_pay6; frame_out
  exact congrArg (fun v => k0_pay2 (F := Ideal) v j) (iblk1 m c)

/-- The reference's array of scales after its run. -/
theorem final10 (c : Dev nD) : (dats m 0 c).arrAt 10 (cfgs 0).N = k0_pay3 (F := Ideal) (k0_pay1 (F := Ideal) (m ((c : Thread nD τ).loc main_arg1))) := by
  refine (dats m 0 c).arrAt_eq_of_after_last 10 t0_0 (by decide +kernel) _ fun j => ?_
  blk_simp
  rw [after0_10]; unfold out0_10 k0_pay5; frame_out
  exact congrArg (fun v => k0_pay3 (F := Ideal) (k0_pay1 (F := Ideal) v) j) (iblk1 m c)

/-- The reference's first result after its run. -/
theorem final8 (c : Dev nD) : (dats m 0 c).arrAt 8 (cfgs 0).N
    = Cert.OutIdeal.Hand.REF8 (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_after_last 8 t0_0 (by decide +kernel) _ fun j => ?_
  blk_simp
  rw [after0_8]; unfold out0_8 k0_pay6 k0_pay5; frame_out
  exact congrFun (body_eq (iblk0 m c) (iblk1 m c) (iblk2 m c) (iblk3 m c) (iblk4 m c) (iblk5 m c) (iblk6 m c) (iblk7 m c)) j

end Cert.OutRefIdeal.Hand

namespace Cert.OutClaims

set_option maxHeartbeats 2000000 in
/-- At the ideal instance the kernel computes the reference's three functions. -/
theorem algebraic : Cert.algebraic_OutIdeal_OutRefIdeal := by
  pair_intro
  · run_from Cert.OutIdeal.Hand.run_main m g
  · run_from Cert.OutRefIdeal.Gen.run_main m' g'
    · obtain ⟨h0, h1, h2, h3, h4, h5, h6, h7⟩ := hagree c
      refine (Cert.OutRefIdeal.Hand.final8 m' c).trans (Eq.trans ?_ (Cert.OutIdeal.Hand.final8 m c).symm)
      rw [h0, h1, h2, h3, h4, h5, h6, h7]
    · refine (Cert.OutRefIdeal.Hand.final9 m' c).trans (Eq.trans ?_ (Cert.OutIdeal.Hand.final9 m c).symm)
      rw [(hagree c).2.1]
    · refine (Cert.OutRefIdeal.Hand.final10 m' c).trans (Eq.trans ?_ (Cert.OutIdeal.Hand.final10 m c).symm)
      rw [(hagree c).2.1]

end Cert.OutClaims

end
-- ==== Proof.lean ====
module

public import proofs.«01_k».proof.Defs
public import proofs.«01_k».proof.Proof.Gen.Ln.Frame
public import proofs.«01_k».proof.Proof.Gen.LnIdeal.Frame
public import proofs.«01_k».proof.Proof.Gen.LnRefIdeal.Frame
public import proofs.«01_k».proof.Proof.Gen.Qkv.Frame
public import proofs.«01_k».proof.Proof.Gen.QkvIdeal.Frame
public import proofs.«01_k».proof.Proof.Gen.Gu.Frame
public import proofs.«01_k».proof.Proof.Gen.GuIdeal.Frame
public import proofs.«01_k».proof.Proof.Gen.GuRefIdeal.Frame
public import proofs.«01_k».proof.Proof.Gen.AttnRefIdeal.Frame
public import proofs.«01_k».proof.Proof.Gen.OutRefIdeal.Frame
public import proofs.«01_k».proof.Proof.Gen.GuRefIdeal.Value
public import proofs.«01_k».proof.Proof.Gen.Out.Skeleton
public import proofs.«01_k».proof.Proof.Gen.OutIdeal.Skeleton
public import proofs.«01_k».proof.Proof.Gen.Attn.Skeleton
public import proofs.«01_k».proof.Proof.Gen.AttnIdeal.Skeleton
public import proofs.«01_k».proof.Proof.AttnFrame
public import proofs.«01_k».proof.Proof.AttnIdealFrame
public import proofs.«01_k».proof.Proof.Attn
public import proofs.«01_k».proof.Proof.Ln
public import proofs.«01_k».proof.Proof.Gu
public import proofs.«01_k».proof.Proof.OutFrame
public import proofs.«01_k».proof.Proof.OutIdealFrame
public import proofs.«01_k».proof.Proof.Out

@[expose] public section

noncomputable section

namespace Cert.Proof

open Idealize.ShloMosaic Idealize.SL.Sem

theorem claim : Cert.Claim := ⟨Cert.Ln.Gen.facts, Cert.LnIdeal.Gen.facts, Cert.LnRefIdeal.Gen.facts, Cert.Qkv.Gen.facts, Cert.QkvIdeal.Gen.facts, Cert.Gu.Gen.facts, Cert.GuIdeal.Gen.facts, Cert.GuRefIdeal.Gen.facts, Cert.Attn.Gen.facts, Cert.AttnIdeal.Gen.facts, Cert.AttnRefIdeal.Gen.facts, Cert.Out.Gen.facts, Cert.OutIdeal.Gen.facts, Cert.OutRefIdeal.Gen.facts,
  fun m ρ _ => Cert.Ln.Gen.frame m ρ,
  fun m ρ _ => Cert.LnIdeal.Gen.frame m ρ,
  fun m ρ _ => Cert.LnRefIdeal.Gen.frame m ρ,
  fun m ρ _ => Cert.Qkv.Gen.frame m ρ,
  fun m ρ _ => Cert.QkvIdeal.Gen.frame m ρ,
  fun m ρ _ => Cert.Gu.Gen.frame m ρ,
  fun m ρ _ => Cert.GuIdeal.Gen.frame m ρ,
  fun m ρ _ => Cert.GuRefIdeal.Gen.frame m ρ,
  fun m ρ _ => Cert.Attn.Hand.frame m ρ,
  fun m ρ _ => Cert.AttnIdeal.Hand.frame m ρ,
  fun m ρ _ => Cert.AttnRefIdeal.Gen.frame m ρ,
  fun m ρ _ => Cert.Out.Hand.frame m ρ,
  fun m ρ _ => Cert.OutIdeal.Hand.frame m ρ,
  fun m ρ _ => Cert.OutRefIdeal.Gen.frame m ρ,
  trivial, trivial, trivial, trivial, trivial,
  Cert.LnClaims.algebraic, Cert.GuClaims.algebraic, Cert.AttnClaims.algebraic, Cert.OutClaims.algebraic⟩

end Cert.Proof

end
